-- ==== Defs.lean ====
def Pre_Kernel [hPre_eidx_in_table : Cert.Pre_eidx_in_table.Facts] (m : (ℓ : Loc Cert.Kernel.nD Cert.Kernel.τ Cert.Kernel.sig) → Buf (Elt Bits) ℓ) : Prop :=
  ∀ c : Dev Cert.Kernel.nD,
    (Cert.Pre_eidx_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_eidx_in_table : Cert.Pre_eidx_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_eidx_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_eidx_in_table : Cert.Pre_eidx_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_eidx_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_eidx_in_table : Cert.Pre_eidx_in_table.Facts] (m : (ℓ : Loc Cert.Reference.nD Cert.Reference.τ Cert.Reference.sig) → Buf (Elt Bits) ℓ) : Prop :=
  ∀ c : Dev Cert.Reference.nD,
    (Cert.Pre_eidx_in_table.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite [hPre_finite : Cert.Pre_finite.Facts] (m : (ℓ : Loc Cert.SbIdeal.nD Cert.SbIdeal.τ Cert.SbIdeal.sig) → Buf (Elt Ideal) ℓ) : Prop :=
  ∀ c : Dev Cert.SbIdeal.nD,
    (Cert.Pre_finite.fn (F := Ideal) (m ((c.tc : Thread Cert.SbIdeal.nD Cert.SbIdeal.τ).loc Cert.SbIdeal.main_arg0))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite [hPre_finite : Cert.Pre_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite.fn (F := Ideal) (m ((c.tc : Thread Cert.SbRefIdeal.nD Cert.SbRefIdeal.τ).loc Cert.SbRefIdeal.main_arg0))) = (fun _ => 1#1)

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressIdeal_finite_maps [hPre_finite_maps : Cert.Pre_finite_maps.Facts] (m : (ℓ : Loc Cert.CompressIdeal.nD Cert.CompressIdeal.τ Cert.CompressIdeal.sig) → Buf (Elt Ideal) ℓ) : Prop :=
  ∀ c : Dev Cert.CompressIdeal.nD,
    (Cert.Pre_finite_maps.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3))) = (fun _ => 1#1)

def Pre_CompressRefIdeal (m : (ℓ : Loc Cert.CompressRefIdeal.nD Cert.CompressRefIdeal.τ Cert.CompressRefIdeal.sig) → Buf (Elt Ideal) ℓ) : Prop :=
  True

def Pre_CompressRefIdeal_finite_maps [hPre_finite_maps : Cert.Pre_finite_maps.Facts] (m : (ℓ : Loc Cert.CompressRefIdeal.nD Cert.CompressRefIdeal.τ Cert.CompressRefIdeal.sig) → Buf (Elt Ideal) ℓ) : Prop :=
  ∀ c : Dev Cert.CompressRefIdeal.nD,
    (Cert.Pre_finite_maps.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3))) = (fun _ => 1#1)

def quiescent_Kernel [hKernel : Cert.Kernel.Facts] [hPre_eidx_in_table : Cert.Pre_eidx_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_eidx_in_table : Cert.Pre_eidx_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_eidx_in_table : Cert.Pre_eidx_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_eidx_in_table : Cert.Pre_eidx_in_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbIdeal_pre_finite [hSbIdeal : Cert.SbIdeal.Facts] [hPre_finite : Cert.Pre_finite.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_SbRefIdeal_pre_finite [hSbRefIdeal : Cert.SbRefIdeal.Facts] [hPre_finite : Cert.Pre_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ r.2.sem = fun _ => 0)

def quiescent_CompressIdeal_pre_finite_maps [hCompressIdeal : Cert.CompressIdeal.Facts] [hPre_finite_maps : Cert.Pre_finite_maps.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal_finite_maps m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3))
      ∧ r.2.sem = fun _ => 0)

def quiescent_CompressRefIdeal_pre_finite_maps [hCompressRefIdeal : Cert.CompressRefIdeal.Facts] [hPre_finite_maps : Cert.Pre_finite_maps.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal_finite_maps m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_eidx_in_table : Cert.Pre_eidx_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_eidx_in_table : Cert.Pre_eidx_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v10)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v10) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v10) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v23)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v23) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v13) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v22)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v22) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v2)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v2) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v13) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_Sb_SbIdeal : Prop :=
  True

def algebraic_SbIdeal_SbRefIdeal_pre_finite [hSbIdeal : Cert.SbIdeal.Facts] [hSbRefIdeal : Cert.SbRefIdeal.Facts] [hPre_finite : Cert.Pre_finite.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)) →
    ∃ (v0 : (c : Dev Cert.SbIdeal.nD) → Buf (Elt Ideal) ((c.tc : Thread Cert.SbIdeal.nD Cert.SbIdeal.τ).loc Cert.SbIdeal.main_v13)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v13) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v30) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0))

def preserves_Compress_CompressIdeal : Prop :=
  True

def algebraic_CompressIdeal_CompressRefIdeal_pre_finite_maps [hCompressIdeal : Cert.CompressIdeal.Facts] [hCompressRefIdeal : Cert.CompressRefIdeal.Facts] [hPre_finite_maps : Cert.Pre_finite_maps.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal_finite_maps m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)) →
    ∃ (v0 : (c : Dev Cert.CompressIdeal.nD) → Buf (Elt Ideal) ((c.tc : Thread Cert.CompressIdeal.nD Cert.CompressIdeal.τ).loc Cert.CompressIdeal.main_v22)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v22) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v27) = v0 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3))

def Claim : Prop :=
  ∃ (hKernel : Cert.Kernel.Facts) (hKernelIdeal : Cert.KernelIdeal.Facts) (hReferenceIdeal : Cert.ReferenceIdeal.Facts) (hReference : Cert.Reference.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hFinalNorm : Cert.FinalNorm.Facts) (hFinalNormIdeal : Cert.FinalNormIdeal.Facts) (hFinalNormRefIdeal : Cert.FinalNormRefIdeal.Facts) (hSb : Cert.Sb.Facts) (hSbIdeal : Cert.SbIdeal.Facts) (hSbRefIdeal : Cert.SbRefIdeal.Facts) (hCompress : Cert.Compress.Facts) (hCompressIdeal : Cert.CompressIdeal.Facts) (hCompressRefIdeal : Cert.CompressRefIdeal.Facts) (hPre_eidx_in_table : Cert.Pre_eidx_in_table.Facts) (hPre_finite : Cert.Pre_finite.Facts) (hPre_finite_maps : Cert.Pre_finite_maps.Facts),
    quiescent_Kernel (hKernel := hKernel) (hPre_eidx_in_table := hPre_eidx_in_table)
    ∧ quiescent_KernelIdeal (hKernelIdeal := hKernelIdeal) (hPre_eidx_in_table := hPre_eidx_in_table)
    ∧ quiescent_ReferenceIdeal (hReferenceIdeal := hReferenceIdeal) (hPre_eidx_in_table := hPre_eidx_in_table)
    ∧ quiescent_Reference (hReference := hReference) (hPre_eidx_in_table := hPre_eidx_in_table)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_Sb (hSb := hSb)
    ∧ quiescent_SbIdeal (hSbIdeal := hSbIdeal)
    ∧ quiescent_SbIdeal_pre_finite (hSbIdeal := hSbIdeal) (hPre_finite := hPre_finite)
    ∧ quiescent_SbRefIdeal (hSbRefIdeal := hSbRefIdeal)
    ∧ quiescent_SbRefIdeal_pre_finite (hSbRefIdeal := hSbRefIdeal) (hPre_finite := hPre_finite)
    ∧ quiescent_Compress (hCompress := hCompress)
    ∧ quiescent_CompressIdeal (hCompressIdeal := hCompressIdeal)
    ∧ quiescent_CompressIdeal_pre_finite_maps (hCompressIdeal := hCompressIdeal) (hPre_finite_maps := hPre_finite_maps)
    ∧ quiescent_CompressRefIdeal (hCompressRefIdeal := hCompressRefIdeal)
    ∧ quiescent_CompressRefIdeal_pre_finite_maps (hCompressRefIdeal := hCompressRefIdeal) (hPre_finite_maps := hPre_finite_maps)
    ∧ preserves_Kernel_KernelIdeal
    ∧ algebraic_KernelIdeal_ReferenceIdeal (hKernelIdeal := hKernelIdeal) (hReferenceIdeal := hReferenceIdeal) (hPre_eidx_in_table := hPre_eidx_in_table)
    ∧ bitexact_Kernel_Reference (hKernel := hKernel) (hReference := hReference) (hPre_eidx_in_table := hPre_eidx_in_table)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_Sb_SbIdeal
    ∧ algebraic_SbIdeal_SbRefIdeal_pre_finite (hSbIdeal := hSbIdeal) (hSbRefIdeal := hSbRefIdeal) (hPre_finite := hPre_finite)
    ∧ preserves_Compress_CompressIdeal
    ∧ algebraic_CompressIdeal_CompressRefIdeal_pre_finite_maps (hCompressIdeal := hCompressIdeal) (hCompressRefIdeal := hCompressRefIdeal) (hPre_finite_maps := hPre_finite_maps)
-- ==== Pre_eidx_in_table.lean ====
abbrev S65536x128 : Shape := ⟨2, ![65536, 128]⟩
abbrev S32768x128 : Shape := ⟨2, ![32768, 128]⟩
abbrev S_ : Shape := ⟨0, ![]⟩

class Facts : Prop where
  bcast_S_S32768x128 : S_.BroadcastsInDim S32768x128 (![] : Fin 0 → Fin S32768x128.rank)

variable [Facts]

def fn {F : FTy → Type} [FloatOps F] (main_arg0 : IVec S65536x128 32) (main_arg1 : IVec S32768x128 32) : IVec S32768x128 1 :=
  let main_c : IVec S_ 32 := constantI S_ 32 0#32
  let main_v0 : IVec S32768x128 32 := broadcastInDim S32768x128 ![] bcast_S_S32768x128 main_c
  let main_v1 : IVec S32768x128 1 := cmpi .sge main_arg1 main_v0
  let main_c_0 : IVec S_ 32 := constantI S_ 32 16384#32
  let main_v2 : IVec S32768x128 32 := broadcastInDim S32768x128 ![] bcast_S_S32768x128 main_c_0
  let main_v3 : IVec S32768x128 1 := cmpi .slt main_arg1 main_v2
  let main_v4 : IVec S32768x128 1 := andi main_v1 main_v3
  main_v4
-- ==== Pre_finite.lean ====
abbrev S16x2048x7960 : Shape := ⟨3, ![16, 2048, 7960]⟩
abbrev S_ : Shape := ⟨0, ![]⟩

class Facts : Prop where
  bcast_S_S16x2048x7960 : S_.BroadcastsInDim S16x2048x7960 (![] : Fin 0 → Fin S16x2048x7960.rank)

variable [Facts]

def fn {F : FTy → Type} [FloatOps F] (main_arg0 : FVec F S16x2048x7960 .f32) : IVec S16x2048x7960 1 :=
  let main_v0 : FVec F S16x2048x7960 .f32 := Host.absf main_arg0
  let main_cst : FVec F S_ .f32 := constant S_ .f32 0x7F800000#32
  let main_v1 : FVec F S16x2048x7960 .f32 := broadcastInDim S16x2048x7960 ![] bcast_S_S16x2048x7960 main_cst
  let main_v2 : IVec S16x2048x7960 1 := cmpf .olt main_v0 main_v1
  main_v2
-- ==== Pre_finite_maps.lean ====
abbrev S16x2048x7960 : Shape := ⟨3, ![16, 2048, 7960]⟩
abbrev S2048x64 : Shape := ⟨2, ![2048, 64]⟩
abbrev S32x64 : Shape := ⟨2, ![32, 64]⟩
abbrev S2048x1 : Shape := ⟨2, ![2048, 1]⟩
abbrev S_ : Shape := ⟨0, ![]⟩

class Facts : Prop where
  shapeCasts_S32x64_S2048x1 : S32x64.ShapeCasts S2048x1
  bcast_S_S2048x1 : S_.BroadcastsInDim S2048x1 (![] : Fin 0 → Fin S2048x1.rank)
  bcast_S_S2048x64 : S_.BroadcastsInDim S2048x64 (![] : Fin 0 → Fin S2048x64.rank)
  bcast_S2048x1_S2048x64_0_1 : S2048x1.BroadcastsInDim S2048x64 (![0, 1] : Fin 2 → Fin S2048x64.rank)

variable [Facts]

def fn {F : FTy → Type} [FloatOps F] (main_arg0 : FVec F S16x2048x7960 .f32) (main_arg1 : FVec F S2048x64 .f32) (main_arg2 : FVec F S2048x64 .f32) (main_arg3 : FVec F S32x64 .f32) : IVec S2048x64 1 :=
  let main_v0 : FVec F S2048x1 .f32 := shapeCast S2048x1 main_arg3 shapeCasts_S32x64_S2048x1
  let main_v1 : FVec F S2048x1 .f32 := Host.absf main_v0
  let main_cst : FVec F S_ .f32 := constant S_ .f32 0x7F800000#32
  let main_v2 : FVec F S2048x1 .f32 := broadcastInDim S2048x1 ![] bcast_S_S2048x1 main_cst
  let main_v3 : IVec S2048x1 1 := cmpf .olt main_v1 main_v2
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_v7 : FVec F S2048x64 .f32 := Host.absf main_arg2
  let main_cst_1 : FVec F S_ .f32 := constant S_ .f32 0x7F800000#32
  let main_v8 : FVec F S2048x64 .f32 := broadcastInDim S2048x64 ![] bcast_S_S2048x64 main_cst_1
  let main_v9 : IVec S2048x64 1 := cmpf .olt main_v7 main_v8
  let main_v10 : IVec S2048x64 1 := andi main_v6 main_v9
  let main_v11 : IVec S2048x64 1 := broadcastInDim S2048x64 ![0, 1] bcast_S2048x1_S2048x64_0_1 main_v3
  let main_v12 : IVec S2048x64 1 := andi main_v10 main_v11
  main_v12
-- ==== Kernel.lean ====
abbrev S65536x128 : Shape := ⟨2, ![65536, 128]⟩
abbrev S32768x128 : Shape := ⟨2, ![32768, 128]⟩
abbrev S4 : Shape := ⟨1, ![4]⟩
abbrev S1x4x1 : Shape := ⟨3, ![1, 4, 1]⟩
abbrev S32768x1x128 : Shape := ⟨3, ![32768, 1, 128]⟩
abbrev S_ : Shape := ⟨0, ![]⟩
abbrev S32768x4x128 : Shape := ⟨3, ![32768, 4, 128]⟩
abbrev S16777216 : Shape := ⟨1, ![16777216]⟩
abbrev S1x16777216 : Shape := ⟨2, ![1, 16777216]⟩
abbrev S16777216x128 : Shape := ⟨2, ![16777216, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩

abbrev nBuf : Table → Nat
  | .hbm => 14
  | .local .scVector .vmem => 2
  | _ => 0

abbrev bufTy : (tb : Table) → Fin (nBuf tb) → BufTy
  | .hbm, ⟨0, _⟩ => ⟨S65536x128, .i32⟩
  | .hbm, ⟨1, _⟩ => ⟨S32768x128, .i32⟩
  | .hbm, ⟨2, _⟩ => ⟨S4, .i32⟩
  | .hbm, ⟨3, _⟩ => ⟨S1x4x1, .i32⟩
  | .hbm, ⟨4, _⟩ => ⟨S32768x1x128, .i32⟩
  | .hbm, ⟨5, _⟩ => ⟨S_, .i32⟩
  | .hbm, ⟨6, _⟩ => ⟨S32768x1x128, .i32⟩
  | .hbm, ⟨7, _⟩ => ⟨S32768x1x128, .i32⟩
  | .hbm, ⟨8, _⟩ => ⟨S32768x4x128, .i32⟩
  | .hbm, ⟨9, _⟩ => ⟨S32768x4x128, .i32⟩
  | .hbm, ⟨10, _⟩ => ⟨S32768x4x128, .i32⟩
  | .hbm, ⟨11, _⟩ => ⟨S16777216, .i32⟩
  | .hbm, ⟨12, _⟩ => ⟨S1x16777216, .i32⟩
  | .hbm, ⟨13, _⟩ => ⟨S16777216x128, .i32⟩
  | .local .scVector .vmem, ⟨0, _⟩ => ⟨S2x1x128, .i32⟩
  | .local .scVector .vmem, ⟨1, _⟩ => ⟨S2x128x128, .i32⟩
  | _, _ => ⟨S65536x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_arg0_scv : Ref sig .scVector := ⟨.hbm, 0, rfl⟩
abbrev main_v9_scv : Ref sig .scVector := ⟨.hbm, 12, rfl⟩
abbrev main_v10_scv : Ref sig .scVector := ⟨.hbm, 13, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4096_i32 : BitVec 32 := 4096#32
  let v4 : BitVec 32 := Scalar.muli v3 c4096_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c4096_i32_27_r0 : BitVec 32 := 4096#32
  let v32_r0 : BitVec 32 := Scalar.addi c0_i32_26_r0 c4096_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4096_i32 : BitVec 32 := 4096#32
  let v4 : BitVec 32 := Scalar.muli v3 c4096_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4096_i32_62_r0 : BitVec 32 := 4096#32
  let v74_r0 : BitVec 1 := Scalar.cmpi .eq v73_r0 c4096_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c4095_i32_68_r0 : BitVec 32 := 4095#32
  let v83_r0 : BitVec 1 := Scalar.cmpi .sge arg5_r0 c4095_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4096_i32_62_r0 : BitVec 32 := 4096#32
  let v74_r0 : BitVec 1 := Scalar.cmpi .eq v73_r0 c4096_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4096_i32 : BitVec 32 := 4096#32
  let v4 : BitVec 32 := Scalar.muli v3 c4096_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4096_i32 : BitVec 32 := 4096#32
  let v4 : BitVec 32 := Scalar.muli v3 c4096_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c4095_i32_59_r0 : BitVec 32 := 4095#32
  let v70_r0 : BitVec 32 := Scalar.select v69_r0 c4095_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4096_i32 : BitVec 32 := 4096#32
  let v4 : BitVec 32 := Scalar.muli v3 c4096_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4096_i32 : BitVec 32 := 4096#32
  let v4 : BitVec 32 := Scalar.muli v3 c4096_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4096_i32_62_r0 : BitVec 32 := 4096#32
  let v74_r0 : BitVec 1 := Scalar.cmpi .eq v73_r0 c4096_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c4095_i32_55_r0 : BitVec 32 := 4095#32
  let v65_r0 : BitVec 1 := Scalar.cmpi .eq arg5_r0 c4095_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4096_i32 : BitVec 32 := 4096#32
  let v4 : BitVec 32 := Scalar.muli v3 c4096_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4096_i32 : BitVec 32 := 4096#32
  let v4 : BitVec 32 := Scalar.muli v3 c4096_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c4095_i32_59_r0 : BitVec 32 := 4095#32
  let v70_r0 : BitVec 32 := Scalar.select v69_r0 c4095_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c4095_i32_59_r0 : BitVec 32 := 4095#32
  let v70_r0 : BitVec 32 := Scalar.select v69_r0 c4095_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4096_i32 : BitVec 32 := 4096#32
  let v4 : BitVec 32 := Scalar.muli v3 c4096_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x16777216.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x16777216.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S16777216x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S16777216x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x16777216.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x16777216.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S16777216x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S16777216x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c4095_i32_33_r0 : BitVec 32 := 4095#32
  let v37_r0 : BitVec 32 := Scalar.select v36_r0 c4095_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4096_i32 : BitVec 32 := 4096#32
  let v4 : BitVec 32 := Scalar.muli v3 c4096_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S16777216x128.size a)
theorem k0_off19_inb : ∀ (i : grid0.Coords) (v33_4_r0 : BitVec 32) (k0_hw5 : k0_chk5 i v33_4_r0), ∀ a, (k0_off19 i v33_4_r0) a + S128x128.size a ≤ S16777216x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S65536x128 : Shape := ⟨2, ![65536, 128]⟩
abbrev S32768x128 : Shape := ⟨2, ![32768, 128]⟩
abbrev S16384x512 : Shape := ⟨2, ![16384, 512]⟩
abbrev S_ : Shape := ⟨0, ![]⟩
abbrev S32768x128x1 : Shape := ⟨3, ![32768, 128, 1]⟩
abbrev S32768x128x512 : Shape := ⟨3, ![32768, 128, 512]⟩
abbrev S32768x128x4x128 : Shape := ⟨4, ![32768, 128, 4, 128]⟩
abbrev S32768x4x128x128 : Shape := ⟨4, ![32768, 4, 128, 128]⟩
abbrev S16777216x128 : Shape := ⟨2, ![16777216, 128]⟩

abbrev nBuf : Space → Nat
  | .hbm => 15
  | .vmem => 0
  | .smem => 0
  | _ => 0

abbrev bufTy : (tb : Table) → Fin (tcTables nBuf tb) → BufTy
  | .hbm, ⟨0, _⟩ => ⟨S65536x128, .i32⟩
  | .hbm, ⟨1, _⟩ => ⟨S32768x128, .i32⟩
  | .hbm, ⟨2, _⟩ => ⟨S16384x512, .i32⟩
  | .hbm, ⟨3, _⟩ => ⟨S_, .i32⟩
  | .hbm, ⟨4, _⟩ => ⟨S32768x128, .i32⟩
  | .hbm, ⟨5, _⟩ => ⟨S32768x128, .i1⟩
  | .hbm, ⟨6, _⟩ => ⟨S_, .i32⟩
  | .hbm, ⟨7, _⟩ => ⟨S32768x128, .i32⟩
  | .hbm, ⟨8, _⟩ => ⟨S32768x128, .i32⟩
  | .hbm, ⟨9, _⟩ => ⟨S32768x128, .i32⟩
  | .hbm, ⟨10, _⟩ => ⟨S32768x128x1, .i32⟩
  | .hbm, ⟨11, _⟩ => ⟨S32768x128x512, .i32⟩
  | .hbm, ⟨12, _⟩ => ⟨S32768x128x4x128, .i32⟩
  | .hbm, ⟨13, _⟩ => ⟨S32768x4x128x128, .i32⟩
  | .hbm, ⟨14, _⟩ => ⟨S16777216x128, .i32⟩
  | _, _ => ⟨S65536x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Inproj.lean ====
abbrev S16x2048x1024 : Shape := ⟨3, ![16, 2048, 1024]⟩
abbrev S1024 : Shape := ⟨1, ![1024]⟩
abbrev S1024x7960 : Shape := ⟨2, ![1024, 7960]⟩
abbrev S32768x1024 : Shape := ⟨2, ![32768, 1024]⟩
abbrev S1x1024 : Shape := ⟨2, ![1, 1024]⟩
abbrev S1024x512 : Shape := ⟨2, ![1024, 512]⟩
abbrev S1024x768 : Shape := ⟨2, ![1024, 768]⟩
abbrev S1024x24 : Shape := ⟨2, ![1024, 24]⟩
abbrev S1024x3072 : Shape := ⟨2, ![1024, 3072]⟩
abbrev S_ : Shape := ⟨0, ![]⟩
abbrev S1024x104 : Shape := ⟨2, ![1024, 104]⟩
abbrev S1024x8064 : Shape := ⟨2, ![1024, 8064]⟩
abbrev S32768x8064 : Shape := ⟨2, ![32768, 8064]⟩
abbrev S512x1024 : Shape := ⟨2, ![512, 1024]⟩
abbrev S1024x2688 : Shape := ⟨2, ![1024, 2688]⟩
abbrev S512x2688 : Shape := ⟨2, ![512, 2688]⟩
abbrev S512 : Shape := ⟨1, ![512]⟩
abbrev S512x1 : Shape := ⟨2, ![512, 1]⟩
abbrev S32768x2048 : Shape := ⟨2, ![32768, 2048]⟩
abbrev S32768x768 : Shape := ⟨2, ![32768, 768]⟩
abbrev S32768x24 : Shape := ⟨2, ![32768, 24]⟩
abbrev S32768x3072 : Shape := ⟨2, ![32768, 3072]⟩
abbrev S32768x7960 : Shape := ⟨2, ![32768, 7960]⟩
abbrev S16x2048x7960 : Shape := ⟨3, ![16, 2048, 7960]⟩

abbrev nBuf : Space → Nat
  | .hbm => 28
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x7960, .f32⟩
  | .hbm, ⟨3, _⟩ => ⟨S32768x1024, .f32⟩
  | .hbm, ⟨4, _⟩ => ⟨S1x1024, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x768, .f32⟩
  | .hbm, ⟨10, _⟩ => ⟨S1024x24, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x3072, .f32⟩
  | .hbm, ⟨16, _⟩ => ⟨S_, .f32⟩
  | .hbm, ⟨17, _⟩ => ⟨S1024x104, .f32⟩
  | .hbm, ⟨18, _⟩ => ⟨S1024x8064, .f32⟩
  | .hbm, ⟨19, _⟩ => ⟨S1024x8064, .bf16⟩
  | .hbm, ⟨20, _⟩ => ⟨S32768x8064, .f32⟩
  | .hbm, ⟨21, _⟩ => ⟨S32768x2048, .f32⟩
  | .hbm, ⟨22, _⟩ => ⟨S32768x768, .f32⟩
  | .hbm, ⟨23, _⟩ => ⟨S32768x24, .f32⟩
  | .hbm, ⟨24, _⟩ => ⟨S32768x2048, .f32⟩
  | .hbm, ⟨25, _⟩ => ⟨S32768x3072, .f32⟩
  | .hbm, ⟨26, _⟩ => ⟨S32768x7960, .f32⟩
  | .hbm, ⟨27, _⟩ => ⟨S16x2048x7960, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S1024x2688, .bf16⟩
  | .local _ .vmem, ⟨5, _⟩ => ⟨S512x2688, .f32⟩
  | .local _ .vmem, ⟨6, _⟩ => ⟨S512x2688, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S16x2048x1024 : Shape := ⟨3, ![16, 2048, 1024]⟩
abbrev S1024 : Shape := ⟨1, ![1024]⟩
abbrev S1024x7960 : Shape := ⟨2, ![1024, 7960]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x7960 : Shape := ⟨3, ![16, 2048, 7960]⟩

abbrev nBuf : Space → Nat
  | .hbm => 20
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x7960, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x7960, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Merge.lean ====
abbrev S16x2048x1024 : Shape := ⟨3, ![16, 2048, 1024]⟩
abbrev S16x2048x512 : Shape := ⟨3, ![16, 2048, 512]⟩
abbrev S16x2048x7960 : Shape := ⟨3, ![16, 2048, 7960]⟩
abbrev S512x1024 : Shape := ⟨2, ![512, 1024]⟩
abbrev S1024x1024 : Shape := ⟨2, ![1024, 1024]⟩
abbrev S32768x1024 : Shape := ⟨2, ![32768, 1024]⟩
abbrev S32768x512 : Shape := ⟨2, ![32768, 512]⟩
abbrev S32768x7960 : Shape := ⟨2, ![32768, 7960]⟩
abbrev S32768x768 : Shape := ⟨2, ![32768, 768]⟩
abbrev S32768x24 : Shape := ⟨2, ![32768, 24]⟩
abbrev S32768x3072 : Shape := ⟨2, ![32768, 3072]⟩
abbrev S_ : Shape := ⟨0, ![]⟩
abbrev S32768x104 : Shape := ⟨2, ![32768, 104]⟩
abbrev S32768x8064 : Shape := ⟨2, ![32768, 8064]⟩
abbrev S512x512 : Shape := ⟨2, ![512, 512]⟩

abbrev nBuf : Space → Nat
  | .hbm => 33
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S16x2048x7960, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S32768x1024, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x7960, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S32768x768, .f32⟩
  | .hbm, ⟨19, _⟩ => ⟨S32768x24, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x3072, .f32⟩
  | .hbm, ⟨25, _⟩ => ⟨S_, .f32⟩
  | .hbm, ⟨26, _⟩ => ⟨S32768x104, .f32⟩
  | .hbm, ⟨27, _⟩ => ⟨S32768x8064, .f32⟩
  | .hbm, ⟨28, _⟩ => ⟨S512x1024, .bf16⟩
  | .hbm, ⟨29, _⟩ => ⟨S512x1024, .bf16⟩
  | .hbm, ⟨30, _⟩ => ⟨S512x1024, .bf16⟩
  | .hbm, ⟨31, _⟩ => ⟨S1024x1024, .bf16⟩
  | .hbm, ⟨32, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S16x2048x1024 : Shape := ⟨3, ![16, 2048, 1024]⟩
abbrev S16x2048x512 : Shape := ⟨3, ![16, 2048, 512]⟩
abbrev S16x2048x7960 : Shape := ⟨3, ![16, 2048, 7960]⟩
abbrev S512x1024 : Shape := ⟨2, ![512, 1024]⟩
abbrev S1024x1024 : Shape := ⟨2, ![1024, 1024]⟩
abbrev S16x2048x3072 : Shape := ⟨3, ![16, 2048, 3072]⟩
abbrev S_ : Shape := ⟨0, ![]⟩
abbrev S16x2048x3x1024 : Shape := ⟨4, ![16, 2048, 3, 1024]⟩
abbrev S16x2048x1x1024 : Shape := ⟨4, ![16, 2048, 1, 1024]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S16x2048x7960, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S16x2048x3072, .f32⟩
  | .hbm, ⟨10, _⟩ => ⟨S16x2048x3072, .f32⟩
  | .hbm, ⟨11, _⟩ => ⟨S16x2048x3072, .f32⟩
  | .hbm, ⟨12, _⟩ => ⟨S_, .f32⟩
  | .hbm, ⟨13, _⟩ => ⟨S16x2048x3072, .f32⟩
  | .hbm, ⟨14, _⟩ => ⟨S16x2048x3072, .f32⟩
  | .hbm, ⟨15, _⟩ => ⟨S_, .f32⟩
  | .hbm, ⟨16, _⟩ => ⟨S16x2048x3072, .f32⟩
  | .hbm, ⟨17, _⟩ => ⟨S16x2048x3072, .f32⟩
  | .hbm, ⟨18, _⟩ => ⟨S16x2048x3x1024, .f32⟩
  | .hbm, ⟨19, _⟩ => ⟨S16x2048x1x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== FinalNorm.lean ====
abbrev S16x2048x1024 : Shape := ⟨3, ![16, 2048, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S32768x1024, .f32⟩
  | .hbm, ⟨3, _⟩ => ⟨S1x1024, .f32⟩
  | .hbm, ⟨4, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16x2048x1024 : Shape := ⟨3, ![16, 2048, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x2048x1024, .f32⟩
  | .hbm, ⟨3, _⟩ => ⟨S_, .f32⟩
  | .hbm, ⟨4, _⟩ => ⟨S16x2048, .f32⟩
  | .hbm, ⟨5, _⟩ => ⟨S16x2048x1, .f32⟩
  | .hbm, ⟨6, _⟩ => ⟨S_, .f32⟩
  | .hbm, ⟨7, _⟩ => ⟨S16x2048x1, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S16x2048x1, .f32⟩
  | .hbm, ⟨13, _⟩ => ⟨S16x2048x1024, .f32⟩
  | .hbm, ⟨14, _⟩ => ⟨S16x2048x1024, .f32⟩
  | .hbm, ⟨15, _⟩ => ⟨S1x1x1024, .f32⟩
  | .hbm, ⟨16, _⟩ => ⟨S16x2048x1024, .f32⟩
  | .hbm, ⟨17, _⟩ => ⟨S16x2048x1024, .f32⟩
  | .hbm, ⟨18, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Sb.lean ====
abbrev S16x2048x7960 : Shape := ⟨3, ![16, 2048, 7960]⟩
abbrev S16x2048x512 : Shape := ⟨3, ![16, 2048, 512]⟩
abbrev S16x2048x768 : Shape := ⟨3, ![16, 2048, 768]⟩
abbrev S16x2048x24 : Shape := ⟨3, ![16, 2048, 24]⟩
abbrev S16x2048x3072 : Shape := ⟨3, ![16, 2048, 3072]⟩
abbrev S_ : Shape := ⟨0, ![]⟩
abbrev S16x2048x104 : Shape := ⟨3, ![16, 2048, 104]⟩
abbrev S16x2048x8064 : Shape := ⟨3, ![16, 2048, 8064]⟩
abbrev S1x128x128 : Shape := ⟨3, ![1, 128, 128]⟩
abbrev S1x2048x128 : Shape := ⟨3, ![1, 2048, 128]⟩
abbrev S128x128 : Shape := ⟨2, ![128, 128]⟩
abbrev S1x128x64 : Shape := ⟨3, ![1, 128, 64]⟩
abbrev S128x64 : Shape := ⟨2, ![128, 64]⟩
abbrev S128x1 : Shape := ⟨2, ![128, 1]⟩
abbrev S128 : Shape := ⟨1, ![128]⟩

abbrev nBuf : Space → Nat
  | .hbm => 16
  | .vmem => 8
  | .smem => 0
  | _ => 0

abbrev bufTy : (tb : Table) → Fin (tcTables nBuf tb) → BufTy
  | .hbm, ⟨0, _⟩ => ⟨S16x2048x7960, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S16x2048x512, .f32⟩
  | .hbm, ⟨5, _⟩ => ⟨S16x2048x768, .f32⟩
  | .hbm, ⟨6, _⟩ => ⟨S16x2048x24, .f32⟩
  | .hbm, ⟨7, _⟩ => ⟨S16x2048x512, .f32⟩
  | .hbm, ⟨8, _⟩ => ⟨S16x2048x512, .f32⟩
  | .hbm, ⟨9, _⟩ => ⟨S16x2048x512, .f32⟩
  | .hbm, ⟨10, _⟩ => ⟨S16x2048x512, .f32⟩
  | .hbm, ⟨11, _⟩ => ⟨S16x2048x3072, .f32⟩
  | .hbm, ⟨12, _⟩ => ⟨S_, .f32⟩
  | .hbm, ⟨13, _⟩ => ⟨S16x2048x104, .f32⟩
  | .hbm, ⟨14, _⟩ => ⟨S16x2048x8064, .f32⟩
  | .hbm, ⟨15, _⟩ => ⟨S16x2048x512, .f32⟩
  | .local _ .vmem, ⟨0, _⟩ => ⟨S1x128x128, .f32⟩
  | .local _ .vmem, ⟨1, _⟩ => ⟨S1x128x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x128x128, .f32⟩
  | .local _ .vmem, ⟨7, _⟩ => ⟨S1x128x128, .f32⟩
  | _, _ => ⟨S16x2048x7960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 16], ![false, false, false]⟩

def k0_mult1 (i : grid0.Coords) : BitVec 32 :=
  let arg2 : BitVec 32 := BitVec.ofNat 32 (i 2).val
  let c128_i32 : BitVec 32 := 128#32
  let v10 : BitVec 32 := Scalar.muli arg2 c128_i32
  v10
def k0_off1 (i : grid0.Coords) : Fin 3 → Nat :=
  let c0_2 : Index := 0#32
  let arg2 : BitVec 32 := BitVec.ofNat 32 (i 2).val
  let c128_i32 : BitVec 32 := 128#32
  let v10 : BitVec 32 := Scalar.muli arg2 c128_i32
  let v11 : BitVec 32 := v10
  let v12 : Index := Scalar.indexCast v11
  let c0_3 : Index := 0#32
  ![0, v12.toNat, 0]
@[reducible] def k0_t1_loop (i : grid0.Coords) : Scf.Loop 32 :=
  let c0_i32 : BitVec 32 := 0#32
  let arg2 : BitVec 32 := BitVec.ofNat 32 (i 2).val
  let v59 : BitVec 32 := Scalar.subi arg2 c0_i32
  let c1_i32 : BitVec 32 := 1#32
  let v61 : BitVec 32 := Scalar.divsi v59 c1_i32
  let v62 : BitVec 32 := Scalar.muli v61 c1_i32
  let v63 : BitVec 32 := Scalar.addi c0_i32 v62
  let c1_i32_19 : BitVec 32 := 1#32
  ⟨c0_i32, v63, c1_i32_19⟩
def k0_mult2 (i : grid0.Coords) (k0_t1 : Fin (k0_t1_loop i).trips) : BitVec 32 :=
  let arg2 : BitVec 32 := BitVec.ofNat 32 (i 2).val
  let c1_i32_52 : BitVec 32 := 1#32
  let v131 : BitVec 32 := Scalar.subi arg2 c1_i32_52
  let c0_i32 : BitVec 32 := 0#32
  let c1_i32_19 : BitVec 32 := 1#32
  let arg7 : BitVec 32 := Scf.iv c0_i32 c1_i32_19 k0_t1
  let v132 : BitVec 32 := Scalar.subi v131 arg7
  let c128_i32_53 : BitVec 32 := 128#32
  let v133 : BitVec 32 := Scalar.muli v132 c128_i32_53
  v133
def k0_off2 (i : grid0.Coords) (k0_t1 : Fin (k0_t1_loop i).trips) : Fin 3 → Nat :=
  let c0_54 : Index := 0#32
  let arg2 : BitVec 32 := BitVec.ofNat 32 (i 2).val
  let c1_i32_52 : BitVec 32 := 1#32
  let v131 : BitVec 32 := Scalar.subi arg2 c1_i32_52
  let c0_i32 : BitVec 32 := 0#32
  let c1_i32_19 : BitVec 32 := 1#32
  let arg7 : BitVec 32 := Scf.iv c0_i32 c1_i32_19 k0_t1
  let v132 : BitVec 32 := Scalar.subi v131 arg7
  let c128_i32_53 : BitVec 32 := 128#32
  let v133 : BitVec 32 := Scalar.muli v132 c128_i32_53
  let v134 : BitVec 32 := v133
  let v135 : Index := Scalar.indexCast v134
  let c0_55 : Index := 0#32
  ![0, v135.toNat, 0]
@[reducible] def k0_t2_loop (i : grid0.Coords) : Scf.Loop 32 :=
  let c0_i32 : BitVec 32 := 0#32
  let arg2 : BitVec 32 := BitVec.ofNat 32 (i 2).val
  let v59 : BitVec 32 := Scalar.subi arg2 c0_i32
  let c1_i32 : BitVec 32 := 1#32
  let v61 : BitVec 32 := Scalar.divsi v59 c1_i32
  let v62 : BitVec 32 := Scalar.muli v61 c1_i32
  let v63 : BitVec 32 := Scalar.addi c0_i32 v62
  let v60 : BitVec 32 := Scalar.addi c0_i32 v59
  let c1_i32_20 : BitVec 32 := 1#32
  ⟨v63, v60, c1_i32_20⟩
def k0_mult3 (i : grid0.Coords) (k0_t2 : Fin (k0_t2_loop i).trips) : BitVec 32 :=
  let arg2 : BitVec 32 := BitVec.ofNat 32 (i 2).val
  let c1_i32_52 : BitVec 32 := 1#32
  let v131 : BitVec 32 := Scalar.subi arg2 c1_i32_52
  let c0_i32 : BitVec 32 := 0#32
  let v59 : BitVec 32 := Scalar.subi arg2 c0_i32
  let c1_i32 : BitVec 32 := 1#32
  let v61 : BitVec 32 := Scalar.divsi v59 c1_i32
  let v62 : BitVec 32 := Scalar.muli v61 c1_i32
  let v63 : BitVec 32 := Scalar.addi c0_i32 v62
  let c1_i32_20 : BitVec 32 := 1#32
  let arg7 : BitVec 32 := Scf.iv v63 c1_i32_20 k0_t2
  let v132 : BitVec 32 := Scalar.subi v131 arg7
  let c128_i32_53 : BitVec 32 := 128#32
  let v133 : BitVec 32 := Scalar.muli v132 c128_i32_53
  v133
def k0_off3 (i : grid0.Coords) (k0_t2 : Fin (k0_t2_loop i).trips) : Fin 3 → Nat :=
  let c0_54 : Index := 0#32
  let arg2 : BitVec 32 := BitVec.ofNat 32 (i 2).val
  let c1_i32_52 : BitVec 32 := 1#32
  let v131 : BitVec 32 := Scalar.subi arg2 c1_i32_52
  let c0_i32 : BitVec 32 := 0#32
  let v59 : BitVec 32 := Scalar.subi arg2 c0_i32
  let c1_i32 : BitVec 32 := 1#32
  let v61 : BitVec 32 := Scalar.divsi v59 c1_i32
  let v62 : BitVec 32 := Scalar.muli v61 c1_i32
  let v63 : BitVec 32 := Scalar.addi c0_i32 v62
  let c1_i32_20 : BitVec 32 := 1#32
  let arg7 : BitVec 32 := Scf.iv v63 c1_i32_20 k0_t2
  let v132 : BitVec 32 := Scalar.subi v131 arg7
  let c128_i32_53 : BitVec 32 := 128#32
  let v133 : BitVec 32 := Scalar.muli v132 c128_i32_53
  let v134 : BitVec 32 := v133
  let v135 : Index := Scalar.indexCast v134
  let c0_55 : Index := 0#32
  ![0, v135.toNat, 0]
def k0_mult4 (i : grid0.Coords) : BitVec 32 :=
  let arg2 : BitVec 32 := BitVec.ofNat 32 (i 2).val
  let c128_i32_26 : BitVec 32 := 128#32
  let v72 : BitVec 32 := Scalar.muli arg2 c128_i32_26
  v72
def k0_off4 (i : grid0.Coords) : Fin 3 → Nat :=
  let c0_27 : Index := 0#32
  let arg2 : BitVec 32 := BitVec.ofNat 32 (i 2).val
  let c128_i32_26 : BitVec 32 := 128#32
  let v72 : BitVec 32 := Scalar.muli arg2 c128_i32_26
  let v73 : BitVec 32 := v72
  let v74 : Index := Scalar.indexCast v73
  let c64_28 : Index := 64#32
  ![0, v74.toNat, 64]
@[reducible] def k0_t3_loop (i : grid0.Coords) : Scf.Loop 32 :=
  let c0_i32_45 : BitVec 32 := 0#32
  let arg2 : BitVec 32 := BitVec.ofNat 32 (i 2).val
  let v121 : BitVec 32 := Scalar.subi arg2 c0_i32_45
  let c1_i32_46 : BitVec 32 := 1#32
  let v123 : BitVec 32 := Scalar.divsi v121 c1_i32_46
  let v124 : BitVec 32 := Scalar.muli v123 c1_i32_46
  let v125 : BitVec 32 := Scalar.addi c0_i32_45 v124
  let c1_i32_47 : BitVec 32 := 1#32
  ⟨c0_i32_45, v125, c1_i32_47⟩
def k0_mult5 (i : grid0.Coords) (k0_t3 : Fin (k0_t3_loop i).trips) : BitVec 32 :=
  let arg2 : BitVec 32 := BitVec.ofNat 32 (i 2).val
  let c1_i32_52 : BitVec 32 := 1#32
  let v131 : BitVec 32 := Scalar.subi arg2 c1_i32_52
  let c0_i32_45 : BitVec 32 := 0#32
  let c1_i32_47 : BitVec 32 := 1#32
  let arg7 : BitVec 32 := Scf.iv c0_i32_45 c1_i32_47 k0_t3
  let v132 : BitVec 32 := Scalar.subi v131 arg7
  let c128_i32_53 : BitVec 32 := 128#32
  let v133 : BitVec 32 := Scalar.muli v132 c128_i32_53
  v133
def k0_off5 (i : grid0.Coords) (k0_t3 : Fin (k0_t3_loop i).trips) : Fin 3 → Nat :=
  let c0_54 : Index := 0#32
  let arg2 : BitVec 32 := BitVec.ofNat 32 (i 2).val
  let c1_i32_52 : BitVec 32 := 1#32
  let v131 : BitVec 32 := Scalar.subi arg2 c1_i32_52
  let c0_i32_45 : BitVec 32 := 0#32
  let c1_i32_47 : BitVec 32 := 1#32
  let arg7 : BitVec 32 := Scf.iv c0_i32_45 c1_i32_47 k0_t3
  let v132 : BitVec 32 := Scalar.subi v131 arg7
  let c128_i32_53 : BitVec 32 := 128#32
  let v133 : BitVec 32 := Scalar.muli v132 c128_i32_53
  let v134 : BitVec 32 := v133
  let v135 : Index := Scalar.indexCast v134
  let c64_55 : Index := 64#32
  ![0, v135.toNat, 64]
@[reducible] def k0_t4_loop (i : grid0.Coords) : Scf.Loop 32 :=
  let c0_i32_45 : BitVec 32 := 0#32
  let arg2 : BitVec 32 := BitVec.ofNat 32 (i 2).val
  let v121 : BitVec 32 := Scalar.subi arg2 c0_i32_45
  let c1_i32_46 : BitVec 32 := 1#32
  let v123 : BitVec 32 := Scalar.divsi v121 c1_i32_46
  let v124 : BitVec 32 := Scalar.muli v123 c1_i32_46
  let v125 : BitVec 32 := Scalar.addi c0_i32_45 v124
  let v122 : BitVec 32 := Scalar.addi c0_i32_45 v121
  let c1_i32_48 : BitVec 32 := 1#32
  ⟨v125, v122, c1_i32_48⟩
def k0_mult6 (i : grid0.Coords) (k0_t4 : Fin (k0_t4_loop i).trips) : BitVec 32 :=
  let arg2 : BitVec 32 := BitVec.ofNat 32 (i 2).val
  let c1_i32_52 : BitVec 32 := 1#32
  let v131 : BitVec 32 := Scalar.subi arg2 c1_i32_52
  let c0_i32_45 : BitVec 32 := 0#32
  let v121 : BitVec 32 := Scalar.subi arg2 c0_i32_45
  let c1_i32_46 : BitVec 32 := 1#32
  let v123 : BitVec 32 := Scalar.divsi v121 c1_i32_46
  let v124 : BitVec 32 := Scalar.muli v123 c1_i32_46
  let v125 : BitVec 32 := Scalar.addi c0_i32_45 v124
  let c1_i32_48 : BitVec 32 := 1#32
  let arg7 : BitVec 32 := Scf.iv v125 c1_i32_48 k0_t4
  let v132 : BitVec 32 := Scalar.subi v131 arg7
  let c128_i32_53 : BitVec 32 := 128#32
  let v133 : BitVec 32 := Scalar.muli v132 c128_i32_53
  v133
def k0_off6 (i : grid0.Coords) (k0_t4 : Fin (k0_t4_loop i).trips) : Fin 3 → Nat :=
  let c0_54 : Index := 0#32
  let arg2 : BitVec 32 := BitVec.ofNat 32 (i 2).val
  let c1_i32_52 : BitVec 32 := 1#32
  let v131 : BitVec 32 := Scalar.subi arg2 c1_i32_52
  let c0_i32_45 : BitVec 32 := 0#32
  let v121 : BitVec 32 := Scalar.subi arg2 c0_i32_45
  let c1_i32_46 : BitVec 32 := 1#32
  let v123 : BitVec 32 := Scalar.divsi v121 c1_i32_46
  let v124 : BitVec 32 := Scalar.muli v123 c1_i32_46
  let v125 : BitVec 32 := Scalar.addi c0_i32_45 v124
  let c1_i32_48 : BitVec 32 := 1#32
  let arg7 : BitVec 32 := Scf.iv v125 c1_i32_48 k0_t4
  let v132 : BitVec 32 := Scalar.subi v131 arg7
  let c128_i32_53 : BitVec 32 := 128#32
  let v133 : BitVec 32 := Scalar.muli v132 c128_i32_53
  let v134 : BitVec 32 := v133
  let v135 : Index := Scalar.indexCast v134
  let c64_55 : Index := 64#32
  ![0, v135.toNat, 64]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== SbRefIdeal.lean ====
abbrev S16x2048x7960 : Shape := ⟨3, ![16, 2048, 7960]⟩
abbrev S16x2048x512 : Shape := ⟨3, ![16, 2048, 512]⟩
abbrev S16x2048x8x64 : Shape := ⟨4, ![16, 2048, 8, 64]⟩
abbrev S16x8x2048x64 : Shape := ⟨4, ![16, 8, 2048, 64]⟩
abbrev S16x8x2048x2048 : Shape := ⟨4, ![16, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 73
  | .vmem => 0
  | .smem => 0
  | _ => 0

abbrev bufTy : (tb : Table) → Fin (tcTables nBuf tb) → BufTy
  | .hbm, ⟨0, _⟩ => ⟨S16x2048x7960, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S16x2048x8x64, .f32⟩
  | .hbm, ⟨5, _⟩ => ⟨S16x8x2048x64, .f32⟩
  | .hbm, ⟨6, _⟩ => ⟨S16x2048x8x64, .f32⟩
  | .hbm, ⟨7, _⟩ => ⟨S16x8x2048x64, .f32⟩
  | .hbm, ⟨8, _⟩ => ⟨S16x2048x8x64, .f32⟩
  | .hbm, ⟨9, _⟩ => ⟨S16x8x2048x64, .f32⟩
  | .hbm, ⟨10, _⟩ => ⟨S16x8x2048x2048, .f32⟩
  | .hbm, ⟨11, _⟩ => ⟨S_, .f32⟩
  | .hbm, ⟨12, _⟩ => ⟨S16x8x2048x2048, .f32⟩
  | .hbm, ⟨13, _⟩ => ⟨S16x8x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S16x8x2048x2048, .f32⟩
  | .hbm, ⟨22, _⟩ => ⟨S16x8x2048x2048, .f32⟩
  | .hbm, ⟨23, _⟩ => ⟨S_, .f32⟩
  | .hbm, ⟨24, _⟩ => ⟨S16x8x2048x2048, .f32⟩
  | .hbm, ⟨25, _⟩ => ⟨S16x8x2048x2048, .f32⟩
  | .hbm, ⟨26, _⟩ => ⟨S16x8x2048x2048, .f32⟩
  | .hbm, ⟨27, _⟩ => ⟨S16x8x2048x2048, .f32⟩
  | .hbm, ⟨28, _⟩ => ⟨S16x8x2048x2048, .i1⟩
  | .hbm, ⟨29, _⟩ => ⟨S16x8x2048x2048, .f32⟩
  | .hbm, ⟨30, _⟩ => ⟨S16x8x2048x2048, .f32⟩
  | .hbm, ⟨31, _⟩ => ⟨S16x8x2048x2048, .f32⟩
  | .hbm, ⟨32, _⟩ => ⟨S16x8x2048x2048, .f32⟩
  | .hbm, ⟨33, _⟩ => ⟨S16x8x2048x2048, .f32⟩
  | .hbm, ⟨34, _⟩ => ⟨S16x8x2048x2048, .f32⟩
  | .hbm, ⟨35, _⟩ => ⟨S16x8x2048x2048, .f32⟩
  | .hbm, ⟨36, _⟩ => ⟨S16x8x2048x2048, .f32⟩
  | .hbm, ⟨37, _⟩ => ⟨S16x8x2048x2048, .f32⟩
  | .hbm, ⟨38, _⟩ => ⟨S_, .f32⟩
  | .hbm, ⟨39, _⟩ => ⟨S_, .f32⟩
  | .hbm, ⟨40, _⟩ => ⟨S16x8x2048x2048, .i1⟩
  | .hbm, ⟨41, _⟩ => ⟨S16x8x2048x2048, .f32⟩
  | .hbm, ⟨42, _⟩ => ⟨S16x8x2048x2048, .f32⟩
  | .hbm, ⟨43, _⟩ => ⟨S_, .f32⟩
  | .hbm, ⟨44, _⟩ => ⟨S_, .f32⟩
  | .hbm, ⟨45, _⟩ => ⟨S16x8x2048x2048, .f32⟩
  | .hbm, ⟨46, _⟩ => ⟨S16x8x2048x2048, .f32⟩
  | .hbm, ⟨47, _⟩ => ⟨S16x8x2048x2048, .f32⟩
  | .hbm, ⟨48, _⟩ => ⟨S_, .f32⟩
  | .hbm, ⟨49, _⟩ => ⟨S16x8x2048x2048, .f32⟩
  | .hbm, ⟨50, _⟩ => ⟨S16x8x2048x2048, .f32⟩
  | .hbm, ⟨51, _⟩ => ⟨S16x8x2048x2048, .f32⟩
  | .hbm, ⟨52, _⟩ => ⟨S16x8x2048x2048, .f32⟩
  | .hbm, ⟨53, _⟩ => ⟨S16x8x2048x2048, .i1⟩
  | .hbm, ⟨54, _⟩ => ⟨S16x8x2048x2048, .f32⟩
  | .hbm, ⟨55, _⟩ => ⟨S16x8x2048x2048, .f32⟩
  | .hbm, ⟨56, _⟩ => ⟨S16x8x2048x2048, .f32⟩
  | .hbm, ⟨57, _⟩ => ⟨S16x8x2048x2048, .f32⟩
  | .hbm, ⟨58, _⟩ => ⟨S16x8x2048x2048, .f32⟩
  | .hbm, ⟨59, _⟩ => ⟨S16x8x2048x2048, .f32⟩
  | .hbm, ⟨60, _⟩ => ⟨S16x8x2048x2048, .f32⟩
  | .hbm, ⟨61, _⟩ => ⟨S16x8x2048x2048, .f32⟩
  | .hbm, ⟨62, _⟩ => ⟨S16x8x2048x2048, .f32⟩
  | .hbm, ⟨63, _⟩ => ⟨S16x8x2048x2048, .f32⟩
  | .hbm, ⟨64, _⟩ => ⟨S16x8x2048x2048, .f32⟩
  | .hbm, ⟨65, _⟩ => ⟨S_, .f32⟩
  | .hbm, ⟨66, _⟩ => ⟨S_, .f32⟩
  | .hbm, ⟨67, _⟩ => ⟨S16x8x2048x2048, .i1⟩
  | .hbm, ⟨68, _⟩ => ⟨S16x8x2048x2048, .f32⟩
  | .hbm, ⟨69, _⟩ => ⟨S16x8x2048x2048, .f32⟩
  | .hbm, ⟨70, _⟩ => ⟨S16x8x2048x64, .f32⟩
  | .hbm, ⟨71, _⟩ => ⟨S16x2048x8x64, .f32⟩
  | .hbm, ⟨72, _⟩ => ⟨S16x2048x512, .f32⟩
  | _, _ => ⟨S16x2048x7960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== Compress.lean ====
abbrev S16x2048x7960 : Shape := ⟨3, ![16, 2048, 7960]⟩
abbrev S2048x64 : Shape := ⟨2, ![2048, 64]⟩
abbrev S32x64 : Shape := ⟨2, ![32, 64]⟩
abbrev S16x2048x512 : Shape := ⟨3, ![16, 2048, 512]⟩
abbrev S16x2048x768 : Shape := ⟨3, ![16, 2048, 768]⟩
abbrev S16x2048x24 : Shape := ⟨3, ![16, 2048, 24]⟩
abbrev S16x2048x3072 : Shape := ⟨3, ![16, 2048, 3072]⟩
abbrev S_ : Shape := ⟨0, ![]⟩
abbrev S16x2048x104 : Shape := ⟨3, ![16, 2048, 104]⟩
abbrev S16x2048x8064 : Shape := ⟨3, ![16, 2048, 8064]⟩
abbrev S16x2048x256 : Shape := ⟨3, ![16, 2048, 256]⟩
abbrev S16x2048x2x2x64 : Shape := ⟨5, ![16, 2048, 2, 2, 64]⟩
abbrev S16x2x2x2048x64 : Shape := ⟨5, ![16, 2, 2, 2048, 64]⟩
abbrev S16x2x2x128x1024 : Shape := ⟨5, ![16, 2, 2, 128, 1024]⟩
abbrev S1x2048x64 : Shape := ⟨3, ![1, 2048, 64]⟩
abbrev S2x2048x64 : Shape := ⟨3, ![2, 2048, 64]⟩
abbrev S1x2048 : Shape := ⟨2, ![1, 2048]⟩
abbrev S16x2x2x128x64 : Shape := ⟨5, ![16, 2, 2, 128, 64]⟩
abbrev S1x1x1x128x1024 : Shape := ⟨5, ![1, 1, 1, 128, 1024]⟩
abbrev S1x1x1x128x64 : Shape := ⟨5, ![1, 1, 1, 128, 64]⟩
abbrev S128x1024 : Shape := ⟨2, ![128, 1024]⟩
abbrev S1024x64 : Shape := ⟨2, ![1024, 64]⟩
abbrev S128x64 : Shape := ⟨2, ![128, 64]⟩
abbrev S8x2048 : Shape := ⟨2, ![8, 2048]⟩
abbrev S8x64 : Shape := ⟨2, ![8, 64]⟩
abbrev S1x64 : Shape := ⟨2, ![1, 64]⟩
abbrev S16x2x2x127x64 : Shape := ⟨5, ![16, 2, 2, 127, 64]⟩

abbrev nBuf : Space → Nat
  | .hbm => 28
  | .vmem => 7
  | .smem => 0
  | _ => 0

abbrev bufTy : (tb : Table) → Fin (tcTables nBuf tb) → BufTy
  | .hbm, ⟨0, _⟩ => ⟨S16x2048x7960, .f32⟩
  | .hbm, ⟨1, _⟩ => ⟨S2048x64, .f32⟩
  | .hbm, ⟨2, _⟩ => ⟨S2048x64, .f32⟩
  | .hbm, ⟨3, _⟩ => ⟨S32x64, .f32⟩
  | .hbm, ⟨4, _⟩ => ⟨S16x2048x512, .f32⟩
  | .hbm, ⟨5, _⟩ => ⟨S16x2048x512, .f32⟩
  | .hbm, ⟨6, _⟩ => ⟨S16x2048x512, .f32⟩
  | .hbm, ⟨7, _⟩ => ⟨S16x2048x512, .f32⟩
  | .hbm, ⟨8, _⟩ => ⟨S16x2048x768, .f32⟩
  | .hbm, ⟨9, _⟩ => ⟨S16x2048x24, .f32⟩
  | .hbm, ⟨10, _⟩ => ⟨S16x2048x512, .f32⟩
  | .hbm, ⟨11, _⟩ => ⟨S16x2048x512, .f32⟩
  | .hbm, ⟨12, _⟩ => ⟨S16x2048x512, .f32⟩
  | .hbm, ⟨13, _⟩ => ⟨S16x2048x512, .f32⟩
  | .hbm, ⟨14, _⟩ => ⟨S16x2048x3072, .f32⟩
  | .hbm, ⟨15, _⟩ => ⟨S_, .f32⟩
  | .hbm, ⟨16, _⟩ => ⟨S16x2048x104, .f32⟩
  | .hbm, ⟨17, _⟩ => ⟨S16x2048x8064, .f32⟩
  | .hbm, ⟨18, _⟩ => ⟨S16x2048x256, .f32⟩
  | .hbm, ⟨19, _⟩ => ⟨S16x2048x2x2x64, .f32⟩
  | .hbm, ⟨20, _⟩ => ⟨S16x2x2x2048x64, .f32⟩
  | .hbm, ⟨21, _⟩ => ⟨S16x2x2x128x1024, .f32⟩
  | .hbm, ⟨22, _⟩ => ⟨S1x2048x64, .f32⟩
  | .hbm, ⟨23, _⟩ => ⟨S1x2048x64, .f32⟩
  | .hbm, ⟨24, _⟩ => ⟨S2x2048x64, .f32⟩
  | .hbm, ⟨25, _⟩ => ⟨S1x2048, .f32⟩
  | .hbm, ⟨26, _⟩ => ⟨S16x2x2x128x64, .f32⟩
  | .hbm, ⟨27, _⟩ => ⟨S16x2x2x127x64, .f32⟩
  | .local _ .vmem, ⟨0, _⟩ => ⟨S1x1x1x128x1024, .f32⟩
  | .local _ .vmem, ⟨1, _⟩ => ⟨S1x1x1x128x1024, .f32⟩
  | .local _ .vmem, ⟨2, _⟩ => ⟨S1x2048x64, .f32⟩
  | .local _ .vmem, ⟨3, _⟩ => ⟨S1x2048x64, .f32⟩
  | .local _ .vmem, ⟨4, _⟩ => ⟨S1x2048, .f32⟩
  | .local _ .vmem, ⟨5, _⟩ => ⟨S1x1x1x128x64, .f32⟩
  | .local _ .vmem, ⟨6, _⟩ => ⟨S1x1x1x128x64, .f32⟩
  | _, _ => ⟨S16x2048x7960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== CompressRefIdeal.lean ====
abbrev S16x2048x7960 : Shape := ⟨3, ![16, 2048, 7960]⟩
abbrev S2048x64 : Shape := ⟨2, ![2048, 64]⟩
abbrev S32x64 : Shape := ⟨2, ![32, 64]⟩
abbrev S16x2048x768 : Shape := ⟨3, ![16, 2048, 768]⟩
abbrev S16x2048x6x2x64 : Shape := ⟨5, ![16, 2048, 6, 2, 64]⟩
abbrev S6x16x2x2048x64 : Shape := ⟨5, ![6, 16, 2, 2048, 64]⟩
abbrev S1x16x2x2048x64 : Shape := ⟨5, ![1, 16, 2, 2048, 64]⟩
abbrev S16x2x2048x64 : Shape := ⟨4, ![16, 2, 2048, 64]⟩
abbrev S16x2x128x16x64 : Shape := ⟨5, ![16, 2, 128, 16, 64]⟩
abbrev S16x2x127x16x64 : Shape := ⟨5, ![16, 2, 127, 16, 64]⟩
abbrev S16x2x127x32x64 : Shape := ⟨5, ![16, 2, 127, 32, 64]⟩
abbrev S1x1x1x32x64 : Shape := ⟨5, ![1, 1, 1, 32, 64]⟩
abbrev S16x2x127x2048 : Shape := ⟨4, ![16, 2, 127, 2048]⟩
abbrev S16x2x127x64 : Shape := ⟨4, ![16, 2, 127, 64]⟩
abbrev S16x1x2x127x64 : Shape := ⟨5, ![16, 1, 2, 127, 64]⟩
abbrev S16x2x2x127x64 : Shape := ⟨5, ![16, 2, 2, 127, 64]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x7960, .f32⟩
  | .hbm, ⟨1, _⟩ => ⟨S2048x64, .f32⟩
  | .hbm, ⟨2, _⟩ => ⟨S2048x64, .f32⟩
  | .hbm, ⟨3, _⟩ => ⟨S32x64, .f32⟩
  | .hbm, ⟨4, _⟩ => ⟨S16x2048x768, .f32⟩
  | .hbm, ⟨5, _⟩ => ⟨S16x2048x6x2x64, .f32⟩
  | .hbm, ⟨6, _⟩ => ⟨S6x16x2x2048x64, .f32⟩
  | .hbm, ⟨7, _⟩ => ⟨S1x16x2x2048x64, .f32⟩
  | .hbm, ⟨8, _⟩ => ⟨S16x2x2048x64, .f32⟩
  | .hbm, ⟨9, _⟩ => ⟨S16x2x128x16x64, .f32⟩
  | .hbm, ⟨10, _⟩ => ⟨S16x2x127x16x64, .f32⟩
  | .hbm, ⟨11, _⟩ => ⟨S16x2x127x16x64, .f32⟩
  | .hbm, ⟨12, _⟩ => ⟨S16x2x127x32x64, .f32⟩
  | .hbm, ⟨13, _⟩ => ⟨S1x1x1x32x64, .f32⟩
  | .hbm, ⟨14, _⟩ => ⟨S16x2x127x32x64, .f32⟩
  | .hbm, ⟨15, _⟩ => ⟨S16x2x127x32x64, .f32⟩
  | .hbm, ⟨16, _⟩ => ⟨S16x2x127x2048, .f32⟩
  | .hbm, ⟨17, _⟩ => ⟨S16x2x127x64, .f32⟩
  | .hbm, ⟨18, _⟩ => ⟨S1x16x2x2048x64, .f32⟩
  | .hbm, ⟨19, _⟩ => ⟨S16x2x2048x64, .f32⟩
  | .hbm, ⟨20, _⟩ => ⟨S16x2x128x16x64, .f32⟩
  | .hbm, ⟨21, _⟩ => ⟨S16x2x127x16x64, .f32⟩
  | .hbm, ⟨22, _⟩ => ⟨S16x2x127x16x64, .f32⟩
  | .hbm, ⟨23, _⟩ => ⟨S16x2x127x32x64, .f32⟩
  | .hbm, ⟨24, _⟩ => ⟨S1x1x1x32x64, .f32⟩
  | .hbm, ⟨25, _⟩ => ⟨S16x2x127x32x64, .f32⟩
  | .hbm, ⟨26, _⟩ => ⟨S16x2x127x32x64, .f32⟩
  | .hbm, ⟨27, _⟩ => ⟨S16x2x127x2048, .f32⟩
  | .hbm, ⟨28, _⟩ => ⟨S16x2x127x64, .f32⟩
  | .hbm, ⟨29, _⟩ => ⟨S16x1x2x127x64, .f32⟩
  | .hbm, ⟨30, _⟩ => ⟨S16x1x2x127x64, .f32⟩
  | .hbm, ⟨31, _⟩ => ⟨S16x2x2x127x64, .f32⟩
  | _, _ => ⟨S16x2048x7960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== Proof.Words.lean ====
module

public import proofs.«01_k».proof.Defs
public import proofs.«01_k».proof.Proof.Gen.Kernel
public import Idealize.ShloMosaic.Lib.Ring.Trips

@[expose] public section

/-! # The gather's control words

The pipeline of a vector subcore carries five 32-bit words round its 4096 trips: how many index blocks have
been fetched, how many waited for, how many gathered, how many written-back blocks waited for, and the block
it is at. Every slot, offset and condition of the body is computed from them. This module gives those words
their closed forms before trip `k`, and with them the closed form of each offset and the truth of each
condition. -/

namespace Cert.Kernel
open Idealize.ShloMosaic

/-- The number of a subcore's first block among the 131072 blocks: 4096 per subcore, subcores counted within
    their core first. -/
def base (i : grid0.Coords) : ℕ := ((i 1).val + 16 * (i 0).val) * 4096

theorem base_add_lt (i : grid0.Coords) {k : ℕ} (hk : k < 4096) : base i + k < 131072 := by
  have h0 : (i 0).val < 2 := (i 0).isLt
  have h1 : (i 1).val < 16 := (i 1).isLt
  unfold base; omega

/-- The word the body computes for a subcore's first block. -/
def baseW (i : grid0.Coords) : BitVec 32 :=
  Scalar.muli (Scalar.addi (Scalar.addi 0#32 (Scalar.muli (BitVec.ofNat 32 (i 1).val) 1#32))
    (Scalar.muli (BitVec.ofNat 32 (i 0).val) 16#32)) 4096#32

theorem baseW_eq (i : grid0.Coords) : baseW i = BitVec.ofNat 32 (base i) := by
  have h0 : (i 0).val < 2 := (i 0).isLt
  have h1 : (i 1).val < 16 := (i 1).isLt
  apply BitVec.eq_of_toNat_eq
  simp only [baseW, base, Scalar.muli, Scalar.addi, IntOp.muli, IntOp.addi, BitVec.toNat_mul, BitVec.toNat_add,
    BitVec.toNat_ofNat]
  omega

/-! ## Words of small numbers -/

theorem cmp_eq {a b : ℕ} (ha : a < 2 ^ 32) (hb : b < 2 ^ 32) :
    Scalar.cmpi .eq (BitVec.ofNat 32 a) (BitVec.ofNat 32 b) = BitVec.ofBool (decide (a = b)) := by
  have : (BitVec.ofNat 32 a == BitVec.ofNat 32 b) = decide (a = b) := by
    rw [Bool.eq_iff_iff]
    simp only [beq_iff_eq, decide_eq_true_eq]
    constructor
    · intro h
      have := congrArg BitVec.toNat h
      simp only [BitVec.toNat_ofNat] at this
      omega
    · rintro rfl; rfl
  simp only [Scalar.cmpi, IntOp.cmpi, this]

theorem cmp_ne {a b : ℕ} (ha : a < 2 ^ 32) (hb : b < 2 ^ 32) :
    Scalar.cmpi .ne (BitVec.ofNat 32 a) (BitVec.ofNat 32 b) = BitVec.ofBool (decide (a ≠ b)) := by
  have : (BitVec.ofNat 32 a != BitVec.ofNat 32 b) = decide (a ≠ b) := by
    rw [Bool.eq_iff_iff]
    simp only [bne_iff_ne, ne_eq, decide_eq_true_eq]
    constructor
    · intro h e; exact h (by rw [e])
    · intro h e
      have := congrArg BitVec.toNat e
      simp only [BitVec.toNat_ofNat] at this
      omega
  simp only [Scalar.cmpi, IntOp.cmpi, this]

theorem cmp_sge {a b : ℕ} (ha : a < 2 ^ 31) (hb : b < 2 ^ 31) :
    Scalar.cmpi .sge (BitVec.ofNat 32 a) (BitVec.ofNat 32 b) = BitVec.ofBool (decide (b ≤ a)) := by
  have : (BitVec.ofNat 32 b).sle (BitVec.ofNat 32 a) = decide (b ≤ a) := by
    rw [BitVec.sle_eq_decide, BitVec.toInt_ofNat', BitVec.toInt_ofNat']
    simp only [Int.bmod_def]
    norm_num
    constructor <;> intro h <;> omega
  simp only [Scalar.cmpi, IntOp.cmpi, this]

theorem addi_ofNat (a b : ℕ) : Scalar.addi (BitVec.ofNat 32 a) (BitVec.ofNat 32 b) = BitVec.ofNat 32 (a + b) := by
  simp only [Scalar.addi, IntOp.addi, BitVec.ofNat_add]

theorem iv_ofNat (k : ℕ) : Scf.iv 0#32 1#32 k = BitVec.ofNat 32 k := by simp [Scf.iv]

/-- The block after block `a`, round the end. -/
def nxtW (a : BitVec 32) : BitVec 32 :=
  Scalar.select (Scalar.cmpi .eq (Scalar.select 1#1 (Scalar.addi a 1#32) a) 4096#32) 0#32
    (Scalar.select 1#1 (Scalar.addi a 1#32) a)

/-- The block before block `a`, round the start. -/
def prvW (a : BitVec 32) : BitVec 32 :=
  Scalar.select (Scalar.cmpi .eq (Scalar.select 1#1 (Scalar.subi a 1#32) a) 4294967295#32) 4095#32
    (Scalar.select 1#1 (Scalar.subi a 1#32) a)

theorem nxtW_ofNat {k : ℕ} (hk : k < 4096) : nxtW (BitVec.ofNat 32 k) = BitVec.ofNat 32 ((k + 1) % 4096) := by
  unfold nxtW
  simp only [Scalar.select, if_true, show (1#1 : BitVec 1) = 1 from rfl]
  rw [show (1#32) = BitVec.ofNat 32 1 from rfl, addi_ofNat, show (4096#32) = BitVec.ofNat 32 4096 from rfl,
    cmp_eq (by omega) (by omega)]
  by_cases h : k + 1 = 4096
  · simp [h]
  · rw [Nat.mod_eq_of_lt (by omega)]; simp [h]

theorem prvW_ofNat {k : ℕ} (hk : k < 4096) : prvW (BitVec.ofNat 32 k) = BitVec.ofNat 32 ((k + 4095) % 4096) := by
  unfold prvW
  simp only [Scalar.select, if_true, show (1#1 : BitVec 1) = 1 from rfl]
  rcases Nat.eq_zero_or_pos k with rfl | h
  · rfl
  · have e : Scalar.subi (BitVec.ofNat 32 k) 1#32 = BitVec.ofNat 32 (k - 1) := by
      apply BitVec.eq_of_toNat_eq
      simp only [Scalar.subi, IntOp.subi, BitVec.toNat_sub, BitVec.toNat_ofNat]
      omega
    rw [e, show (4294967295#32) = BitVec.ofNat 32 4294967295 from rfl, cmp_eq (by omega) (by omega)]
    rw [show (k + 4095) % 4096 = k - 1 by omega]
    have : ¬ k - 1 = 4294967295 := by omega
    simp [this]

/-! ## The conditions -/

theorem cond1_eq (i : grid0.Coords) (t : Fin k0_t1_loop.trips) {k : ℕ} (ht : t.val = k) (hk : k < 4096) :
    k0_cond1 i t (BitVec.ofNat 32 k) = BitVec.ofBool (decide (k < 4095)) := by
  show Scalar.cmpi .ne (Scalar.extui (Scalar.andi (Scalar.andi (Scalar.cmpi .ne (Scalar.addi (BitVec.ofNat 32 k) (baseW i))
    (Scalar.addi (nxtW (BitVec.ofNat 32 k)) (baseW i))) (Scalar.xori (Scalar.cmpi .sge (Scf.iv 0#32 1#32 t.val) 4095#32) 1#1)) 1#1)) 0#32 = _
  have hb := base_add_lt i (k := 0) (by omega)
  rw [nxtW_ofNat hk, baseW_eq, addi_ofNat, addi_ofNat, cmp_ne (by omega) (by omega), ht, iv_ofNat,
    show (4095#32) = BitVec.ofNat 32 4095 from rfl, cmp_sge (by omega) (by omega)]
  have : k + base i ≠ (k + 1) % 4096 + base i := by omega
  rw [decide_eq_true this]
  by_cases h : k < 4095
  · rw [decide_eq_true h, decide_eq_false (by omega)]; rfl
  · rw [decide_eq_false h, decide_eq_true (by omega)]; rfl

theorem cond2_eq (i : grid0.Coords) (t : Fin k0_t1_loop.trips) {k : ℕ} (ht : t.val = k) (hk : k < 4096) :
    k0_cond2 i t (BitVec.ofNat 32 k) = 1#1 := by
  show Scalar.cmpi .ne (Scalar.extui (Scalar.andi (Scalar.ori (Scalar.cmpi .ne (Scalar.addi (BitVec.ofNat 32 k) (baseW i))
    (Scalar.addi (prvW (BitVec.ofNat 32 k)) (baseW i))) (Scalar.cmpi .eq (Scf.iv 0#32 1#32 t.val) 0#32))
    (Scalar.cmpi .sge (Scf.iv 0#32 1#32 t.val) 0#32))) 0#32 = _
  have hb := base_add_lt i (k := 0) (by omega)
  rw [prvW_ofNat hk, baseW_eq, addi_ofNat, addi_ofNat, cmp_ne (by omega) (by omega), ht, iv_ofNat,
    show (0#32) = BitVec.ofNat 32 0 from rfl, cmp_sge (by omega) (by omega), cmp_eq (by omega) (by omega)]
  have : k + base i ≠ (k + 4095) % 4096 + base i := by omega
  rw [decide_eq_true this, decide_eq_true (Nat.zero_le k)]
  by_cases h : k = 0
  · rw [decide_eq_true h]; rfl
  · rw [decide_eq_false h]; rfl

theorem cond5_eq (i : grid0.Coords) (t : Fin k0_t1_loop.trips) {k : ℕ} (ht : t.val = k) (hk : k < 4096) :
    k0_cond5 i t (BitVec.ofNat 32 k) = 1#1 := by
  show Scalar.cmpi .ne (Scalar.extui (Scalar.ori (Scalar.cmpi .ne (Scalar.addi (BitVec.ofNat 32 k) (baseW i))
    (Scalar.addi (nxtW (BitVec.ofNat 32 k)) (baseW i))) (Scalar.cmpi .eq (Scf.iv 0#32 1#32 t.val) 4095#32))) 0#32 = _
  have hb := base_add_lt i (k := 0) (by omega)
  rw [nxtW_ofNat hk, baseW_eq, addi_ofNat, addi_ofNat, cmp_ne (by omega) (by omega), ht, iv_ofNat,
    show (4095#32) = BitVec.ofNat 32 4095 from rfl, cmp_eq (by omega) (by omega)]
  have : k + base i ≠ (k + 1) % 4096 + base i := by omega
  rw [decide_eq_true this]
  by_cases h : k = 4095
  · rw [decide_eq_true h]; rfl
  · rw [decide_eq_false h]; rfl

theorem cond7_eq (i : grid0.Coords) (t : Fin k0_t1_loop.trips) {k : ℕ} (ht : t.val = k) (hk : k < 4096) :
    k0_cond7 i t (BitVec.ofNat 32 k) = BitVec.ofBool (decide (0 < k)) := by
  show Scalar.cmpi .ne (Scalar.extui (Scalar.andi (Scalar.cmpi .ne (Scalar.addi (BitVec.ofNat 32 k) (baseW i))
    (Scalar.addi (prvW (BitVec.ofNat 32 k)) (baseW i))) (Scalar.xori (Scalar.cmpi .eq (Scf.iv 0#32 1#32 t.val) 0#32) 1#1))) 0#32 = _
  have hb := base_add_lt i (k := 0) (by omega)
  rw [prvW_ofNat hk, baseW_eq, addi_ofNat, addi_ofNat, cmp_ne (by omega) (by omega), ht, iv_ofNat,
    show (0#32) = BitVec.ofNat 32 0 from rfl, cmp_eq (by omega) (by omega)]
  have : k + base i ≠ (k + 4095) % 4096 + base i := by omega
  rw [decide_eq_true this]
  by_cases h : 0 < k
  · rw [decide_eq_true h, decide_eq_false (by omega)]; rfl
  · rw [decide_eq_false h, decide_eq_true (by omega)]; rfl

/-! ## The offsets -/

/-- The slot a count stands at: its parity. -/
theorem slot_eq {k : ℕ} (hk : k ≤ 4096) : (Scalar.remui (BitVec.ofNat 32 k) 2#32).toNat = k % 2 := by
  have := Idealize.ShloMosaic.Ring.remui_ofNat (k := k) (n := 2) (by omega) (by omega) (by omega)
  rw [show (2#32) = BitVec.ofNat 32 2 from rfl, this]
  simp only [BitVec.toNat_ofNat]; omega

/-- 128 times a block's number, as the word the body computes. -/
theorem at_eq (i : grid0.Coords) {k : ℕ} (hk : k < 4096) :
    (Scalar.muli 128#32 (Scalar.addi (BitVec.ofNat 32 k) (baseW i))).toNat = 128 * (base i + k) := by
  have hb := base_add_lt i hk
  rw [baseW_eq, addi_ofNat]
  simp only [Scalar.muli, IntOp.muli, BitVec.toNat_mul, BitVec.toNat_ofNat]
  omega

theorem off4_eq {k : ℕ} (hk : k ≤ 4096) : k0_off4 (BitVec.ofNat 32 k) = ![k % 2, 0, 0] := by
  show ![(Scalar.remui (BitVec.ofNat 32 k) 2#32).toNat, 0, 0] = _; rw [slot_eq hk]
theorem off7_eq {k : ℕ} (hk : k ≤ 4096) : k0_off7 (BitVec.ofNat 32 k) = ![k % 2, 0, 0] := off4_eq hk
theorem off10_eq {k : ℕ} (hk : k ≤ 4096) : k0_off10 (BitVec.ofNat 32 k) = ![k % 2, 0, 0] := off4_eq hk
theorem off11_eq {k : ℕ} (hk : k ≤ 4096) : k0_off11 (BitVec.ofNat 32 k) = ![k % 2, 0, 0] := off4_eq hk
theorem off12_eq {k : ℕ} (hk : k ≤ 4096) : k0_off12 (BitVec.ofNat 32 k) = ![k % 2, 0, 0] := off4_eq hk
theorem off15_eq {k : ℕ} (hk : k ≤ 4096) : k0_off15 (BitVec.ofNat 32 k) = ![k % 2, 0, 0] := off4_eq hk
theorem off18_eq {k : ℕ} (hk : k ≤ 4096) : k0_off18 (BitVec.ofNat 32 k) = ![k % 2, 0, 0] := off4_eq hk
theorem off21_eq {k : ℕ} (hk : k ≤ 4096) : k0_off21 (BitVec.ofNat 32 k) = ![k % 2, 0, 0] := off4_eq hk
theorem off6_eq {k : ℕ} (hk : k ≤ 4096) : k0_off6 (BitVec.ofNat 32 k) = ![k % 2] := by
  show ![(Scalar.remui (BitVec.ofNat 32 k) 2#32).toNat] = _; rw [slot_eq hk]
theorem off9_eq {k : ℕ} (hk : k ≤ 4096) : k0_off9 (BitVec.ofNat 32 k) = ![k % 2] := off6_eq hk
theorem off14_eq {k : ℕ} (hk : k ≤ 4096) : k0_off14 (BitVec.ofNat 32 k) = ![k % 2] := off6_eq hk
theorem off17_eq {k : ℕ} (hk : k ≤ 4096) : k0_off17 (BitVec.ofNat 32 k) = ![k % 2] := off6_eq hk
theorem off20_eq {k : ℕ} (hk : k ≤ 4096) : k0_off20 (BitVec.ofNat 32 k) = ![k % 2] := off6_eq hk

theorem off2_eq (i : grid0.Coords) : k0_off2 i = ![0, 128 * (base i + 0)] := by
  show ![0, (Scalar.muli 128#32 (Scalar.addi (BitVec.ofNat 32 0) (baseW i))).toNat] = _
  rw [at_eq i (by omega)]
theorem off5_eq (i : grid0.Coords) {k : ℕ} (hk : k + 1 < 4096) :
    k0_off5 i (BitVec.ofNat 32 k) = ![0, 128 * (base i + (k + 1))] := by
  show ![0, (Scalar.muli 128#32 (Scalar.addi (nxtW (BitVec.ofNat 32 k)) (baseW i))).toNat] = _
  rw [nxtW_ofNat (by omega), Nat.mod_eq_of_lt hk, at_eq i hk]
theorem off8_eq (i : grid0.Coords) {k : ℕ} (hk : k < 4096) : k0_off8 i (BitVec.ofNat 32 k) = ![0, 128 * (base i + k)] := by
  show ![0, (Scalar.muli 128#32 (Scalar.addi (BitVec.ofNat 32 k) (baseW i))).toNat] = _
  rw [at_eq i hk]
theorem off13_eq (i : grid0.Coords) {k : ℕ} (hk : k < 4096) : k0_off13 i (BitVec.ofNat 32 k) = ![128 * (base i + k), 0] := by
  show ![(Scalar.muli 128#32 (Scalar.addi (BitVec.ofNat 32 k) (baseW i))).toNat, 0] = _
  rw [at_eq i hk]
theorem off16_eq (i : grid0.Coords) {k : ℕ} (hk : k + 1 < 4096) :
    k0_off16 i (BitVec.ofNat 32 (k + 1)) = ![128 * (base i + k), 0] := by
  show ![(Scalar.muli 128#32 (Scalar.addi (prvW (BitVec.ofNat 32 (k + 1))) (baseW i))).toNat, 0] = _
  rw [prvW_ofNat hk, show (k + 1 + 4095) % 4096 = k by omega, at_eq i (by omega)]
theorem off19_eq (i : grid0.Coords) : k0_off19 i (BitVec.ofNat 32 0) = ![128 * (base i + 4095), 0] := by
  show ![(Scalar.muli 128#32 (Scalar.addi (prvW (BitVec.ofNat 32 0)) (baseW i))).toNat, 0] = _
  rw [prvW_ofNat (by omega), at_eq i (by omega)]

/-! ## The side conditions -/

theorem inb_slot_in {n : ℕ} {o : Fin 3 → ℕ} (h : o = ![n % 2, 0, 0]) : ∀ a, o a + S1x1x128.size a ≤ S2x1x128.size a := by
  subst h
  have h2 : n % 2 < 2 := Nat.mod_lt _ (by omega)
  generalize n % 2 = s at h2
  intro a; interval_cases s <;> revert a <;> decide
theorem inb_slot_out {n : ℕ} {o : Fin 3 → ℕ} (h : o = ![n % 2, 0, 0]) : ∀ a, o a + S1x128x128.size a ≤ S2x128x128.size a := by
  subst h
  have h2 : n % 2 < 2 := Nat.mod_lt _ (by omega)
  generalize n % 2 = s at h2
  intro a; interval_cases s <;> revert a <;> decide
theorem inb_sem {n : ℕ} {o : Fin 1 → ℕ} (h : o = ![n % 2]) : ∀ a, o a + S1.size a ≤ S2.size a := by
  subst h
  have h2 : n % 2 < 2 := Nat.mod_lt _ (by omega)
  generalize n % 2 = s at h2
  intro a; interval_cases s <;> revert a <;> decide
theorem inb_idx {b : ℕ} (hb : b < 131072) {o : Fin 2 → ℕ} (h : o = ![0, 128 * b]) :
    ∀ a, o a + S1x128.size a ≤ S1x16777216.size a := by
  subst h
  intro a; fin_cases a
  · show 0 + 1 ≤ 1; omega
  · show 128 * b + 128 ≤ 16777216; omega
theorem inb_res {b : ℕ} (hb : b < 131072) {o : Fin 2 → ℕ} (h : o = ![128 * b, 0]) :
    ∀ a, o a + S128x128.size a ≤ S16777216x128.size a := by
  subst h
  intro a; fin_cases a
  · show 128 * b + 128 ≤ 16777216; omega
  · show 0 + 128 ≤ 128; omega

theorem chk3_ok {k : ℕ} (hk : k ≤ 4096) : k0_chk3 (BitVec.ofNat 32 k) := inb_slot_in (off11_eq hk)
theorem chk2_ok {k : ℕ} (hk : k ≤ 4096) : k0_chk2 (BitVec.ofNat 32 k) := inb_slot_out (off10_eq hk)
theorem chk4_ok {k : ℕ} (hk : k ≤ 4096) : k0_chk4 (BitVec.ofNat 32 k) :=
  ⟨inb_slot_out (off18_eq hk), inb_sem (off20_eq hk), inb_slot_out (off21_eq hk)⟩
theorem chk5_ok (i : grid0.Coords) : k0_chk5 i (BitVec.ofNat 32 0) := inb_res (base_add_lt i (by omega)) (off19_eq i)

theorem chk1_ok (i : grid0.Coords) (t : Fin k0_t1_loop.trips) {k : ℕ} (ht : t.val = k) (hk : k < 4096) {a9 : ℕ} (h9 : a9 ≤ 4096)
    {a6 : ℕ} (h6 : a6 ≤ 4096) :
    k0_chk1 i t (BitVec.ofNat 32 a6) (BitVec.ofNat 32 k) (BitVec.ofNat 32 k) (BitVec.ofNat 32 a9) (BitVec.ofNat 32 k) := by
  have c1 : k0_cond1 i t (BitVec.ofNat 32 k) = 1#1 → k + 1 < 4096 := fun h => by
    rw [cond1_eq i t ht hk] at h
    by_contra hn
    rw [decide_eq_false (by omega)] at h
    exact absurd h (by decide)
  have c7 : k0_cond7 i t (BitVec.ofNat 32 k) = 1#1 → ∃ j, k = j + 1 := fun h => by
    rw [cond7_eq i t ht hk] at h
    rcases k with _ | j
    · exact absurd h (by decide)
    · exact ⟨j, rfl⟩
  refine ⟨fun _ => inb_slot_in (off4_eq h6), fun h => inb_idx (base_add_lt i (c1 h)) (off5_eq i (c1 h)), fun _ => inb_sem (off6_eq h6),
    fun _ => inb_slot_in (off7_eq hk.le), fun _ => inb_idx (base_add_lt i hk) (off8_eq i hk), fun _ => inb_sem (off9_eq hk.le),
    fun _ => inb_slot_out (off12_eq hk.le), fun _ => inb_res (base_add_lt i hk) (off13_eq i hk), fun _ => inb_sem (off14_eq hk.le),
    fun _ => inb_slot_out (off15_eq h9), fun h => ?_, fun _ => inb_sem (off17_eq h9)⟩
  obtain ⟨j, rfl⟩ := c7 h
  exact inb_res (base_add_lt i (by omega)) (off16_eq i hk)

end Cert.Kernel
-- ==== Proof.Setup.lean ====
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.ViewIndex
public import Idealize.ShloMosaic.Lib.StableHlo.Run
public import Idealize.ShloMosaic.Lib.Pipeline.Kit
public import Idealize.ShloMosaic.Lib.Tactic
public import proofs.«01_k».proof.Proof.Gen.Kernel.Skeleton

@[expose] public section

/-! # The gather's pieces of memory

The launch as the launch theorem sees it; the two slots of each scratch buffer, the blocks of the index row and of
the result; and, for each of the five transfers and waits of a trip, what it takes and what it leaves. -/

noncomputable section

namespace Cert.Kernel.Run

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0
/-- The thread of the subcore at grid position `L`. -/
abbrev thr (d : Dev nD) (L : grid0.Coords) : Thread nD τ := V d (cV L) (jV L)

/-! ## The buffers, their slots and their blocks -/

/-- The table, the row of all indices, and the result. -/
abbrev tLoc (d : Dev nD) : Loc nD τ sig := (SparseCore.T d).loc main_arg0
abbrev iLoc (d : Dev nD) : Loc nD τ sig := (SparseCore.T d).loc main_v9
abbrev oLoc (d : Dev nD) : Loc nD τ sig := (SparseCore.T d).loc main_v10
/-- A subcore's two index slots and two row slots. -/
abbrev sLoc (d : Dev nD) (L : grid0.Coords) : Loc nD τ sig := (thr d L).loc cc0_scoped0
abbrev rLoc (d : Dev nD) (L : grid0.Coords) : Loc nD τ sig := (thr d L).loc cc0_scoped2

abbrev tV : Memref sig .scVector .hbm S65536x128 .i32 := Memref.whole main_arg0_scv
abbrev iV : Memref sig .scVector .hbm S1x16777216 .i32 := Memref.whole main_v9_scv
abbrev oV : Memref sig .scVector .hbm S16777216x128 .i32 := Memref.whole main_v10_scv
abbrev sV : Memref sig .scVector .vmem S2x1x128 .i32 := Memref.whole cc0_scoped0
abbrev rV : Memref sig .scVector .vmem S2x128x128 .i32 := Memref.whole cc0_scoped2

abbrev inSlotAt (o : Fin 3 → ℕ) (h : ∀ a, o a + S1x1x128.size a ≤ S2x1x128.size a) : Memref sig .scVector .vmem S1x128 .i32 :=
  ((sV).slice (Rect.unit (s := S2x1x128) o S1x1x128.size h) (fun _ => rfl)).squeeze S1x128 squeezes_S1x1x128_S1x128
abbrev listAt (o : Fin 3 → ℕ) (h : ∀ a, o a + S1x1x128.size a ≤ S2x1x128.size a) : Memref sig .scVector .vmem S128 .i32 :=
  ((inSlotAt o h).slice (Rect.unit (s := S1x128) ![0, 0] S1x128.size inb_S1x128_S1x128_0_0) (fun _ => rfl)).squeeze S128 squeezes_S1x128_S128
abbrev outSlotAt (o : Fin 3 → ℕ) (h : ∀ a, o a + S1x128x128.size a ≤ S2x128x128.size a) : Memref sig .scVector .vmem S128x128 .i32 :=
  ((rV).slice (Rect.unit (s := S2x128x128) o S1x128x128.size h) (fun _ => rfl)).squeeze S128x128 squeezes_S1x128x128_S128x128
abbrev idxBlkAt (o : Fin 2 → ℕ) (h : ∀ a, o a + S1x128.size a ≤ S1x16777216.size a) : Memref sig .scVector .hbm S1x128 .i32 :=
  (iV).slice (Rect.unit (s := S1x16777216) o S1x128.size h) (fun _ => rfl)
abbrev resBlkAt (o : Fin 2 → ℕ) (h : ∀ a, o a + S128x128.size a ≤ S16777216x128.size a) : Memref sig .scVector .hbm S128x128 .i32 :=
  (oV).slice (Rect.unit (s := S16777216x128) o S128x128.size h) (fun _ => rfl)
abbrev tabV : Memref sig .scVector .hbm S65536x128 .i32 :=
  (tV).slice (Rect.unit (s := S65536x128) ![0, 0] S65536x128.size inb_S65536x128_S65536x128_0_0) (fun _ => rfl)
abbrev semInAt (o : Fin 1 → ℕ) (h : ∀ a, o a + S1.size a ≤ S2.size a) : DmaSems sig S_ :=
  (cc0_scoped1.slice (Rect.unit (s := S2) o S1.size h)).squeeze S_ squeezes_S1_S_
abbrev semOutAt (o : Fin 1 → ℕ) (h : ∀ a, o a + S1.size a ≤ S2.size a) : DmaSems sig S_ :=
  (cc0_scoped3.slice (Rect.unit (s := S2) o S1.size h)).squeeze S_ squeezes_S1_S_

/-- The slot a block's number goes to. -/
def sl (k : ℕ) : Fin 2 := ⟨k % 2, Nat.mod_lt _ (by omega)⟩
theorem sl_add_two (k : ℕ) : sl (k + 2) = sl k := Fin.ext (Nat.add_mod_right k 2)

theorem inb_in (n : Fin 2) : ∀ a, (![n.val, 0, 0] : Fin 3 → ℕ) a + S1x1x128.size a ≤ S2x1x128.size a := by
  revert n; decide
theorem inb_out (n : Fin 2) : ∀ a, (![n.val, 0, 0] : Fin 3 → ℕ) a + S1x128x128.size a ≤ S2x128x128.size a := by
  revert n; decide
theorem inb_se (n : Fin 2) : ∀ a, (![n.val] : Fin 1 → ℕ) a + S1.size a ≤ S2.size a := by
  revert n; decide

abbrev inSlot (n : Fin 2) := inSlotAt ![n.val, 0, 0] (inb_in n)
abbrev list (n : Fin 2) := listAt ![n.val, 0, 0] (inb_in n)
abbrev outSlot (n : Fin 2) := outSlotAt ![n.val, 0, 0] (inb_out n)
abbrev idxBlk (b : Fin 131072) := idxBlkAt ![0, 128 * b.val] (inb_idx b.isLt rfl)
abbrev resBlk (b : Fin 131072) := resBlkAt ![128 * b.val, 0] (inb_res b.isLt rfl)
abbrev semIn (n : Fin 2) : SemLoc sig := .dma (semInAt ![n.val] (inb_se n)).sem
abbrev semOut (n : Fin 2) : SemLoc sig := .dma (semOutAt ![n.val] (inb_se n)).sem
abbrev semGa : SemLoc sig := .dma cc0_scoped4.sem

/-! ## What the pieces hold -/

section Pieces

variable (d : Dev nD) (L : grid0.Coords)
variable (T : Buf (Elt F) (tLoc d)) (I : Buf (Elt F) (iLoc d))

/-- The table's row an index names. -/
def rowOf (w : BitVec 32) (c : Fin 128) : S65536x128.Idx :=
  Shape.pair (d := ![65536, 128]) ⟨w.toNat % 65536, Nat.mod_lt _ (by omega)⟩ c
/-- Place `r` of the row of indices. -/
def idxAt (r : Fin 16777216) : S1x16777216.Idx := Shape.pair (d := ![1, 16777216]) (0 : Fin 1) r

/-- The result: at row `r`, the table's row named by index `r`. -/
def G : Buf (Elt F) (oLoc d) := fun j => T (rowOf (I (idxAt (j 0))) (j 1))

/-- Block `b` of the row of indices, at the indices. -/
def idxPts (b : Fin 131072) : sProp 𝕄 := iLoc d ↦[(idxBlk b).view.set]{fullShare} I
/-- Block `b` of the result, at `f`. -/
def resPts (f : Buf (Elt F) (oLoc d)) (b : Fin 131072) : sProp 𝕄 := oLoc d ↦[(resBlk b).view.set]{fullShare} f
/-- Index slot `n`, at anything, and at block `b`'s indices. -/
def inFree (n : Fin 2) : sProp 𝕄 := iprop(∃ f : Buf (Elt F) (sLoc d L), sLoc d L ↦[(inSlot n).view.set]{fullShare} f)
def inFull (n : Fin 2) (b : Fin 131072) : sProp 𝕄 :=
  iprop(∃ f : Buf (Elt F) (sLoc d L), ⌜(inSlot n).view.read (Elt F) f = (idxBlk b).view.read (Elt F) I⌝ ∗ sLoc d L ↦[(inSlot n).view.set]{fullShare} f)
/-- Row slot `n`, at anything, and at block `b`'s rows. -/
def outFree (n : Fin 2) : sProp 𝕄 := iprop(∃ f : Buf (Elt F) (rLoc d L), rLoc d L ↦[(outSlot n).view.set]{fullShare} f)
def outFull (n : Fin 2) (b : Fin 131072) : sProp 𝕄 :=
  iprop(∃ f : Buf (Elt F) (rLoc d L), ⌜(outSlot n).view.read (Elt F) f = (resBlk b).view.read (Elt F) (G d T I)⌝ ∗ rLoc d L ↦[(outSlot n).view.set]{fullShare} f)

theorem inFull_free (n : Fin 2) (b : Fin 131072) : inFull d L I n b ⊢ (inFree (F := F) d L n : sProp 𝕄) := by
  unfold inFull inFree
  iintro ⟨%f, -, H⟩
  iexists f; iexact H
theorem outFull_free (n : Fin 2) (b : Fin 131072) : outFull d L T I n b ⊢ (outFree (F := F) d L n : sProp 𝕄) := by
  unfold outFull outFree
  iintro ⟨%f, -, H⟩
  iexists f; iexact H

/-- The units a copy into an index slot and a copy into a result block land. -/
abbrev NI : ℕ := (inSlot 0).view.dmaCredit
abbrev NO : ℕ := (outSlot 0).view.dmaCredit
theorem credit_in (o : Fin 3 → ℕ) (h) : (inSlotAt o h).view.dmaCredit = NI := rfl
theorem credit_res (o : Fin 2 → ℕ) (h) : (resBlkAt o h).view.dmaCredit = NO := rfl
theorem NI_pos : 0 < NI := View.dmaCredit_pos _ (by decide)
theorem NO_pos : 0 < NO := View.dmaCredit_pos _ (by decide)

/-- The fetch of block `b` into slot `n`, in flight; the write-back of block `b` from slot `n`, in flight. -/
def fetching (n : Fin 2) (b : Fin 131072) : sProp 𝕄 :=
  Flight countersEmb (thr d L) (semIn n) (default : HIx 1) NI iprop(inFull d L I n b ∗ idxPts d I b)
def writing (n : Fin 2) (b : Fin 131072) : sProp 𝕄 :=
  Flight countersEmb (thr d L) (semOut n) (default : HIx 1) NO iprop(resPts d (G d T I) b ∗ outFull d L T I n b)

variable [FloatOps F]

/-- Issuing the fetch of a block. -/
theorem issue_in {α : Type} {n : Fin 2} {b : Fin 131072} {oS : Fin 3 → ℕ} {oI : Fin 2 → ℕ} {oM : Fin 1 → ℕ}
    (hS : oS = ![n.val, 0, 0]) (hI : oI = ![0, 128 * b.val]) (hM : oM = ![n.val]) {bS bI bM} {hsrc hdst hsem}
    {k : PUnit → Prog (TpuEff nD τ sig (Elt F) Λ₀ (thr d L).2) α} {Q : α → sProp 𝕄} :
    iprop(idxPts d I b ∗ inFree d L n ∗ semVal (thr d L, semIn n) 0)
      ⊢ iprop((fetching d L I n b -∗ wp frame (wpE (defs₀ (F := F)) 𝒱₀ (thr d L) none) Set.univ (k ⟨⟩) Q)
        -∗ wp frame (wpE (defs₀ (F := F)) 𝒱₀ (thr d L) none) Set.univ
          (.op (.enqueueDma (idxBlkAt oI bI) (.here (inSlotAt oS bS)) (.dma (semInAt oM bM).sem) hsrc hdst hsem) k) Q) := by
  subst hS hI hM
  unfold idxPts inFree fetching
  iintro ⟨Hi, ⟨%f, Hs⟩, Hv⟩ Hk
  iapply (Transfers.wp_dmaLocal countersEmb 𝒱₀ (thr d L) none (src := idxBlk b) (dst := inSlot n) (sm := semIn n) (default : HIx 1) NI
    (credit_in _ _) NI_pos (fun _ h => h)) $$ [Hi Hs Hv]
  · isplitl [Hi]; · iexact Hi
    isplitl [Hs]; · iexact Hs
    iexact Hv
  iintro Hf
  iapply Hk
  iapply (Transfers.Flight_mono countersEmb (thr d L) ?_) $$ Hf
  unfold inFull
  iintro ⟨Hs, Hi⟩
  isplitl [Hs]
  · iexists _
    isplitr
    rotate_left
    · iexact Hs
    · ipureintro
      exact View.read_write_univ _ _
  · unfold idxPts; iexact Hi

/-- What a subcore owes while it works: what it owed before, its own waits recorded. -/
def owesW (O : CellTallies nD τ sig (HIx 1)) (W : Waits sig (HIx 1)) : sProp 𝕄 :=
  iprop(∃ W', ⌜∀ p ∈ W', p ∈ W ∨ p.2 = none⌝ ∗ owes (thr d L) O W')

/-- A wait on one of the subcore's own semaphores for a copy in flight. -/
theorem wait_flight {α : Type} {O : CellTallies nD τ sig (HIx 1)} {W : Waits sig (HIx 1)} {se : DmaSem sig} {N : ℕ} {D : sProp 𝕄}
    {sp sp' : Space} {s s' : Shape} {e e' : EltTy} {srcw : Memref sig (thr d L).2.kind sp s e} {dstw : Memref sig (thr d L).2.kind sp' s' e'} {hsrc hdst}
    (hN : dstw.view.dmaCredit = N) {k : PUnit → Prog (TpuEff nD τ sig (Elt F) Λ₀ (thr d L).2) α} {Q : α → sProp 𝕄} :
    iprop(Transfers.MayWaits (thr d L) (default : HIx 1) O ∗ Flight countersEmb (thr d L) (.dma se) (default : HIx 1) N D ∗ owesW d L O W)
      ⊢ iprop((D ∗ semVal (thr d L, .dma se) 0 ∗ owesW d L O W -∗ wp frame (wpE (defs₀ (F := F)) 𝒱₀ (thr d L) none) Set.univ (k ⟨⟩) Q)
        -∗ wp frame (wpE (defs₀ (F := F)) 𝒱₀ (thr d L) none) Set.univ (.op (.waitDma2 se srcw dstw hsrc hdst) k) Q) := by
  unfold owesW
  iintro ⟨Hmw, Hfl, %W', %hW', HO⟩ Hk
  iapply (Transfers.wp_waitLocalO countersEmb 𝒱₀ (thr d L) none (default : HIx 1) hN) $$ [Hmw Hfl HO]
  · isplitl [Hfl]; · iexact Hfl
    isplitl [HO]; · iexact HO
    iapply (Transfers.MayWaits.elim (SemLoc.dma se)) $$ Hmw
  iintro ⟨HD, Hv, HO⟩
  iapply Hk
  isplitl [HD]; · iexact HD
  isplitl [Hv]; · iexact Hv
  iexists _; isplitr
  rotate_left
  · iexact HO
  ipureintro; intro p hp
  rcases Finset.mem_insert.mp hp with hp | hp
  · exact .inr (hp ▸ rfl)
  · exact hW' p hp

/-- The wait for a fetch. -/
theorem wait_in {α : Type} {O : CellTallies nD τ sig (HIx 1)} {W : Waits sig (HIx 1)} {n : Fin 2} {b : Fin 131072} {oS : Fin 3 → ℕ} {oI : Fin 2 → ℕ} {oM : Fin 1 → ℕ}
    (hM : oM = ![n.val]) {bS bI bM} {hsrc hdst}
    {k : PUnit → Prog (TpuEff nD τ sig (Elt F) Λ₀ (thr d L).2) α} {Q : α → sProp 𝕄} :
    iprop(Transfers.MayWaits (thr d L) (default : HIx 1) O ∗ fetching d L I n b ∗ owesW d L O W)
      ⊢ iprop(((inFull d L I n b ∗ idxPts d I b) ∗ semVal (thr d L, semIn n) 0 ∗ owesW d L O W -∗ wp frame (wpE (defs₀ (F := F)) 𝒱₀ (thr d L) none) Set.univ (k ⟨⟩) Q)
        -∗ wp frame (wpE (defs₀ (F := F)) 𝒱₀ (thr d L) none) Set.univ
          (.op (.waitDma2 (semInAt oM bM).sem (idxBlkAt oI bI) (inSlotAt oS bS) hsrc hdst) k) Q) := by
  subst hM
  unfold fetching
  exact wait_flight d L (srcw := idxBlkAt oI bI) (dstw := inSlotAt oS bS) (credit_in oS bS)

/-- The wait for a write-back. -/
theorem wait_out {α : Type} {O : CellTallies nD τ sig (HIx 1)} {W : Waits sig (HIx 1)} {n : Fin 2} {b : Fin 131072} {oS : Fin 3 → ℕ} {oI : Fin 2 → ℕ} {oM : Fin 1 → ℕ}
    (hM : oM = ![n.val]) {bS bI bM} {hsrc hdst}
    {k : PUnit → Prog (TpuEff nD τ sig (Elt F) Λ₀ (thr d L).2) α} {Q : α → sProp 𝕄} :
    iprop(Transfers.MayWaits (thr d L) (default : HIx 1) O ∗ writing d L T I n b ∗ owesW d L O W)
      ⊢ iprop(((resPts d (G d T I) b ∗ outFull d L T I n b) ∗ semVal (thr d L, semOut n) 0 ∗ owesW d L O W -∗ wp frame (wpE (defs₀ (F := F)) 𝒱₀ (thr d L) none) Set.univ (k ⟨⟩) Q)
        -∗ wp frame (wpE (defs₀ (F := F)) 𝒱₀ (thr d L) none) Set.univ
          (.op (.waitDma2 (semOutAt oM bM).sem (outSlotAt oS bS) (resBlkAt oI bI) hsrc hdst) k) Q) := by
  subst hM
  unfold writing
  exact wait_flight d L (srcw := outSlotAt oS bS) (dstw := resBlkAt oI bI) (credit_res oI bI)

/-- Issuing the write-back of a block. -/
theorem issue_out {α : Type} {n : Fin 2} {b : Fin 131072} {f₀ : Buf (Elt F) (oLoc d)} {oS : Fin 3 → ℕ} {oI : Fin 2 → ℕ} {oM : Fin 1 → ℕ}
    (hS : oS = ![n.val, 0, 0]) (hI : oI = ![128 * b.val, 0]) (hM : oM = ![n.val]) {bS bI bM} {hsrc hdst hsem}
    {k : PUnit → Prog (TpuEff nD τ sig (Elt F) Λ₀ (thr d L).2) α} {Q : α → sProp 𝕄} :
    iprop(outFull d L T I n b ∗ resPts d f₀ b ∗ semVal (thr d L, semOut n) 0)
      ⊢ iprop((writing d L T I n b -∗ wp frame (wpE (defs₀ (F := F)) 𝒱₀ (thr d L) none) Set.univ (k ⟨⟩) Q)
        -∗ wp frame (wpE (defs₀ (F := F)) 𝒱₀ (thr d L) none) Set.univ
          (.op (.enqueueDma (outSlotAt oS bS) (.here (resBlkAt oI bI)) (.dma (semOutAt oM bM).sem) hsrc hdst hsem) k) Q) := by
  subst hS hI hM
  unfold outFull resPts writing
  iintro ⟨⟨%f, %hf, Hs⟩, Hi, Hv⟩ Hk
  iapply (Transfers.wp_dmaLocal countersEmb 𝒱₀ (thr d L) none (src := outSlot n) (dst := resBlk b) (sm := semOut n) (default : HIx 1) NO
    (credit_res _ _) NO_pos (fun _ h => h)) $$ [Hi Hs Hv]
  · isplitl [Hs]; · iexact Hs
    isplitl [Hi]; · iexact Hi
    iexact Hv
  iintro Hf
  iapply Hk
  iapply (Transfers.Flight_mono countersEmb (thr d L) ?_) $$ Hf
  have hw : ∀ i ∈ (resBlk b).view.set, (resBlk b).view.write (Elt F) f₀ (ReadAs.same.apply ((outSlot n).view.read (Elt F) f)) Finset.univ i = G d T I i := by
    intro i hi
    obtain ⟨y, -, rfl⟩ := Finset.mem_map.mp hi
    refine View.eq_of_read_eq ?_
    rw [View.read_write_univ]
    exact congrFun hf y
  unfold outFull resPts
  iintro ⟨Hi, Hs⟩
  isplitl [Hi]
  · iapply (Entails.of_eq (pointsTo_congr hw)) $$ Hi
  · iexists f
    isplitr
    · ipureintro; exact hf
    · iexact Hs

/-! ## The gather of one block -/

/-- The place in a block of indices of word `y` of the list the gather reads. -/
def inBlk (y : S128.Idx) : S1x128.Idx :=
  (Rect.unit (s := S1x128) ![0, 0] S1x128.size inb_S1x128_S1x128_0_0).emb (Shape.reshapeEquiv squeezes_S1x128_S128.numel_eq y)

omit [FloatOps F] in
theorem inBlk_one (y : S128.Idx) : (inBlk y 1).val = (y 0).val := by
  have h : Shape.reshapeEquiv squeezes_S1x128_S128.numel_eq y = (Fin.cons ⟨0, Nat.one_pos⟩ y : S1x128.Idx) :=
    Shape.reshapeEquiv_cons_one (n := 1) (d := ![128]) _ y
  unfold inBlk
  rw [h]
  show 0 + 1 * (y 0).val = (y 0).val
  omega

omit [FloatOps F] in
theorem list_set (n : Fin 2) : (list n).view.set = (inSlot n).view.set := by
  show (((inSlot n).view.slice (Rect.unit (s := S1x128) ![0, 0] S1x128.size inb_S1x128_S1x128_0_0)).reshape S128 squeezes_S1x128_S128.numel_eq).set = _
  rw [View.set_reshape, View.set_slice]
  have h : (Rect.unit (s := S1x128) ![0, 0] S1x128.size inb_S1x128_S1x128_0_0).set = Finset.univ := by
    ext i
    simp only [Rect.mem_set_unit, Finset.mem_univ, iff_true]
    intro a
    have := (i a).isLt
    match a with
    | 0 => exact ⟨Nat.zero_le _, by simpa using this⟩
    | 1 => exact ⟨Nat.zero_le _, by simpa using this⟩
  rw [h]; rfl

omit [FloatOps F] in
/-- Word `y` of the list, once slot `n` holds block `b`'s indices. -/
theorem list_read {n : Fin 2} {b : Fin 131072} {f : Buf (Elt F) (sLoc d L)}
    (hf : (inSlot n).view.read (Elt F) f = (idxBlk b).view.read (Elt F) I) (y : S128.Idx) :
    (list n).view.read (Elt F) f y = I (idxAt ⟨128 * b.val + (y 0).val, by have := b.isLt; have h : (y 0).val < 128 := (y 0).isLt; omega⟩) := by
  have h1 : (list n).view.read (Elt F) f y = (inSlot n).view.read (Elt F) f (inBlk y) := rfl
  rw [h1, hf]
  have h2 : (idxBlk b).view.read (Elt F) I (inBlk y) = I ((idxBlk b).view.emb (inBlk y)) := rfl
  rw [h2]
  refine congrArg I ?_
  funext a
  apply Fin.ext
  match a with
  | 0 =>
    have h0 : (inBlk y 0).val < 1 := (inBlk y 0).isLt
    show 0 + 1 * (inBlk y 0).val = 0
    omega
  | 1 =>
    have := inBlk_one y
    show 128 * b.val + 1 * (inBlk y 1).val = 128 * b.val + (y 0).val
    omega

variable (hI : ∀ j, (I j).toNat < 65536)

include hI in
omit [FloatOps F] in
theorem list_lt {n : Fin 2} {b : Fin 131072} {f : Buf (Elt F) (sLoc d L)}
    (hf : (inSlot n).view.read (Elt F) f = (idxBlk b).view.read (Elt F) I) (y : S128.Idx) :
    ((list n).view.read (Elt F) f y).toNat < S65536x128.size gathers_S65536x128_S128x128.axis := by
  rw [list_read d L I hf]; exact hI _

omit [FloatOps F] in
/-- What the gather of block `b` leaves is block `b` of the result. -/
theorem gathered {n : Fin 2} {b : Fin 131072} {f : Buf (Elt F) (sLoc d L)}
    (hf : (inSlot n).view.read (Elt F) f = (idxBlk b).view.read (Elt F) I) :
    SparseCore.gatherPayload gathers_S65536x128_S128x128 (tabV.view.read (Elt F) T)
      (SparseCore.rows ((list n).view.read (Elt F) f) rfl (list_lt d L I hI hf)) = (resBlk b).view.read (Elt F) (G d T I) := by
  funext x
  have h1 : (resBlk b).view.read (Elt F) (G d T I) x = G d T I ((resBlk b).view.emb x) := rfl
  rw [h1]
  have h2 : ∀ z, tabV.view.read (Elt F) T z = T (tabV.view.emb z) := fun _ => rfl
  unfold SparseCore.gatherPayload G
  rw [h2]
  congr 1
  have hr : SparseCore.rows ((list n).view.read (Elt F) f) rfl (list_lt d L I hI hf) (x 0)
      = ⟨(I (idxAt ((resBlk b).view.emb x 0))).toNat, hI _⟩ := by
    apply Fin.ext
    show ((list n).view.read (Elt F) f _).toNat = _
    rw [list_read d L I hf]
    congr 3
    apply Fin.ext
    show 128 * b.val + ((S128.rowMajor.symm ((x 0).cast _)) 0).val = 128 * b.val + 1 * (x 0).val
    rw [← Shape.rowMajor_val_one, Equiv.apply_symm_apply]
    show _ = 128 * b.val + 1 * (x 0).val
    rw [Nat.one_mul]; rfl
  funext a
  apply Fin.ext
  match a with
  | 0 =>
    show 0 + 1 * ((gathers_S65536x128_S128x128.idx _ x) gathers_S65536x128_S128x128.axis).val = _
    rw [Shape.Gathers.idx_axis]
    show 0 + 1 * (SparseCore.rows ((list n).view.read (Elt F) f) rfl (list_lt d L I hI hf) (x 0)).val = _
    rw [hr]
    show 0 + 1 * (I (idxAt ((resBlk b).view.emb x 0))).toNat = (I (idxAt ((resBlk b).view.emb x 0))).toNat % 65536
    rw [Nat.mod_eq_of_lt (hI _)]; omega
  | 1 =>
    show 0 + 1 * ((gathers_S65536x128_S128x128.idx _ x) 1).val = 0 + 1 * (x 1).val
    rw [Shape.Gathers.idx_of_ne _ _ _ _ (by decide)]
    rfl

/-- A share of the table, as the subcore addresses it. -/
def tabPts (q : PosShare TreeShare) : sProp 𝕄 := tLoc d ↦[tabV.view.set]{q} T

/-- The gather of a block, in flight. -/
def gathering (q : PosShare TreeShare) (n n' : Fin 2) (b : Fin 131072) : sProp 𝕄 :=
  Flight countersEmb (thr d L) semGa (default : HIx 1) NO iprop(outFull d L T I n' b ∗ tabPts d T q ∗ inFull d L I n b)

theorem rows_credit (n : Fin 2) : ∀ h : S65536x128.Gathers 0 S128x128,
    ∑ j, ((outSlot n).slice (S128x128.rowRect h.axis' j) (S128x128.stride_rowRect h.axis' j)).view.dmaCredit = NO := by
  intro h
  exact SparseCore.sum_rowCredit_eq_dmaCredit (outSlot n) h.axis' (fun _ => rfl)

include hI in
/-- Issuing the gather of a block. -/
theorem issue_gather {α : Type} {q : PosShare TreeShare} {n n' : Fin 2} {b : Fin 131072} {oS oR : Fin 3 → ℕ}
    (hS : oS = ![n.val, 0, 0]) (hR : oR = ![n'.val, 0, 0]) {bS bR} {hp hn hsrc he hsp hr}
    {k : PUnit → Prog (TpuEff nD τ sig (Elt F) Λ₀ (thr d L).2) α} {Q : α → sProp 𝕄} :
    iprop(inFull d L I n b ∗ outFree d L n' ∗ tabPts d T q ∗ semVal (thr d L, semGa) 0)
      ⊢ iprop((gathering d L T I q n n' b -∗ wp frame (wpE (defs₀ (F := F)) 𝒱₀ (thr d L) none) Set.univ (k ⟨⟩) Q)
        -∗ wp frame (wpE (defs₀ (F := F)) 𝒱₀ (thr d L) none) Set.univ
          (SparseCore.enqueueIndirectGather hp tabV (outSlotAt oR bR) gathers_S65536x128_S128x128 (listAt oS bS) hn cc0_scoped4.sem hsrc he hsp hr >>= k) Q) := by
  subst hS hR
  unfold inFull outFree tabPts gathering
  iintro ⟨⟨%f, %hf, Hs⟩, ⟨%g, Hr⟩, Ht, Hv⟩ Hk
  iapply (SparseCore.wp_indirectGatherLocal countersEmb 𝒱₀ (thr d L) none (src := tabV) (dst := outSlot n') (offs := list n)
    (hg := gathers_S65536x128_S128x128) (default : HIx 1) NO (rows_credit n' _) (by decide) (list_lt d L I hI hf)) $$ [Hs Hr Ht Hv]
  · isplitl [Ht]; · iexact Ht
    isplitl [Hr]; · iexact Hr
    isplitl [Hs]
    · iapply (Entails.of_eq (congrArg (fun S => (sLoc d L ↦[S]{fullShare} f : sProp 𝕄)) (list_set n).symm)) $$ Hs
    · iexact Hv
  iintro Hf
  iapply Hk
  iapply (Transfers.Flight_mono countersEmb (thr d L) ?_) $$ Hf
  unfold outFull inFull tabPts
  iintro ⟨Hr, Ht, Hs⟩
  isplitl [Hr]
  · iexists _
    isplitr
    rotate_left
    · iexact Hr
    · ipureintro
      rw [View.read_write_univ]
      exact gathered d L T I hI hf
  isplitl [Ht]; · iexact Ht
  iexists f
  isplitr
  · ipureintro; exact hf
  · iapply (Entails.of_eq (congrArg (fun S => (sLoc d L ↦[S]{fullShare} f : sProp 𝕄)) (list_set n))) $$ Hs

/-- The wait for a gather. -/
theorem wait_gather {α : Type} {O : CellTallies nD τ sig (HIx 1)} {W : Waits sig (HIx 1)} {q : PosShare TreeShare} {n n' : Fin 2} {b : Fin 131072} {oR : Fin 3 → ℕ}
    {bR} {hsrc hdst} {k : PUnit → Prog (TpuEff nD τ sig (Elt F) Λ₀ (thr d L).2) α} {Q : α → sProp 𝕄} :
    iprop(Transfers.MayWaits (thr d L) (default : HIx 1) O ∗ gathering d L T I q n n' b ∗ owesW d L O W)
      ⊢ iprop(((outFull d L T I n' b ∗ tabPts d T q ∗ inFull d L I n b) ∗ semVal (thr d L, semGa) 0 ∗ owesW d L O W
          -∗ wp frame (wpE (defs₀ (F := F)) 𝒱₀ (thr d L) none) Set.univ (k ⟨⟩) Q)
        -∗ wp frame (wpE (defs₀ (F := F)) 𝒱₀ (thr d L) none) Set.univ
          (SparseCore.waitIndirectGather cc0_scoped4.sem tabV (outSlotAt oR bR) hsrc hdst >>= k) Q) := by
  unfold gathering
  exact wait_flight d L (srcw := tabV) (dstw := outSlotAt oR bR) (hN := rfl)

end Pieces

end Cert.Kernel.Run
-- ==== Proof.Trip.lean ====
module

public import proofs.«01_k».proof.Proof.Setup

@[expose] public section

/-! # One trip of the pipeline

The state of a subcore before trip `k`, and the trip that carries it from `k` to `k + 1`. -/

noncomputable section

namespace Cert.Kernel.Run

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type}

local notation "𝕄" => MT nD τ sig (HIx 1) (Elt F) ℕ UU ℕ

/-! ## Blocks held back and blocks still to come -/

/-- Block `k` of a subcore. -/
def blk (L : grid0.Coords) (k : ℕ) : Fin 131072 := ⟨base L + k % 4096, base_add_lt L (Nat.mod_lt _ (by omega))⟩
theorem blk_val (L : grid0.Coords) {k : ℕ} (hk : k < 4096) : (blk L k).val = base L + k := by
  show base L + k % 4096 = _
  rw [Nat.mod_eq_of_lt hk]

section Held
variable {M : Type} [URA M] (Φ : ℕ → sProp M)

/-- All blocks but `k`; all but `k` and `k + 1`; those before `k - 1`; those from `k` on. -/
def butOne (k : ℕ) : sProp M := bigSep (Finset.univ.filter fun j : Fin 4096 => j.val ≠ k) fun j => Φ j.val
def butTwo (k : ℕ) : sProp M := bigSep (Finset.univ.filter fun j : Fin 4096 => j.val ≠ k ∧ j.val ≠ k + 1) fun j => Φ j.val
def doneTo (k : ℕ) : sProp M := bigSep (Finset.univ.filter fun j : Fin 4096 => j.val + 1 < k) fun j => Φ j.val
def todoFrom (k : ℕ) : sProp M := bigSep (Finset.univ.filter fun j : Fin 4096 => k ≤ j.val) fun j => Φ j.val

theorem butOne_take {k : ℕ} (hk : k + 1 < 4096) : butOne Φ k = iprop(Φ (k + 1) ∗ butTwo Φ k) := by
  unfold butOne butTwo
  rw [SparseCore.bigSep_erase' (i := (⟨k + 1, hk⟩ : Fin 4096)) (by simp)]
  congr 2
  ext j
  simp only [Finset.mem_erase, Finset.mem_filter, Finset.mem_univ, true_and, ne_eq, Fin.ext_iff]
  tauto

theorem butOne_put {k : ℕ} (hk : k < 4096) : butOne Φ (k + 1) = iprop(Φ k ∗ butTwo Φ k) := by
  unfold butOne butTwo
  rw [SparseCore.bigSep_erase' (i := (⟨k, hk⟩ : Fin 4096)) (by simp)]
  congr 2
  ext j
  simp only [Finset.mem_erase, Finset.mem_filter, Finset.mem_univ, true_and, ne_eq, Fin.ext_iff]

theorem butTwo_last {k : ℕ} (hk : 4096 ≤ k + 1) : butOne Φ k = butTwo Φ k := by
  unfold butOne butTwo
  congr 1
  ext j
  have := j.isLt
  simp only [Finset.mem_filter, Finset.mem_univ, true_and, ne_eq]
  omega

theorem todoFrom_take {k : ℕ} (hk : k < 4096) : todoFrom Φ k = iprop(Φ k ∗ todoFrom Φ (k + 1)) := by
  unfold todoFrom
  rw [SparseCore.bigSep_erase' (i := (⟨k, hk⟩ : Fin 4096)) (by simp)]
  congr 2
  ext j
  simp only [Finset.mem_erase, Finset.mem_filter, Finset.mem_univ, true_and, ne_eq, Fin.ext_iff]
  omega

theorem doneTo_put {k : ℕ} (hk : k < 4096) : doneTo Φ (k + 2) = iprop(Φ k ∗ doneTo Φ (k + 1)) := by
  unfold doneTo
  rw [SparseCore.bigSep_erase' (i := (⟨k, hk⟩ : Fin 4096)) (by simp)]
  congr 2
  ext j
  simp only [Finset.mem_erase, Finset.mem_filter, Finset.mem_univ, true_and, ne_eq, Fin.ext_iff]
  omega

theorem doneTo_one : doneTo Φ 1 = doneTo Φ 0 := by
  unfold doneTo
  congr 1

end Held

/-! ## The words a trip leaves -/

section WordsLeft
variable {k : ℕ} (L : grid0.Coords)

theorem ne_nxt (hk : k < 4096) :
    Scalar.cmpi .ne (Scalar.addi (BitVec.ofNat 32 k) (baseW L)) (Scalar.addi (nxtW (BitVec.ofNat 32 k)) (baseW L)) = 1#1 := by
  have hb := base_add_lt L (k := 0) (by omega)
  rw [nxtW_ofNat hk, baseW_eq, addi_ofNat, addi_ofNat, cmp_ne (by omega) (by omega)]
  have : k + base L ≠ (k + 1) % 4096 + base L := by omega
  rw [decide_eq_true this]; rfl

theorem ne_prv (hk : k < 4096) :
    Scalar.cmpi .ne (Scalar.addi (BitVec.ofNat 32 k) (baseW L)) (Scalar.addi (prvW (BitVec.ofNat 32 k)) (baseW L)) = 1#1 := by
  have hb := base_add_lt L (k := 0) (by omega)
  rw [prvW_ofNat hk, baseW_eq, addi_ofNat, addi_ofNat, cmp_ne (by omega) (by omega)]
  have : k + base L ≠ (k + 4095) % 4096 + base L := by omega
  rw [decide_eq_true this]; rfl

theorem is_first (hk : k < 4096) : Scalar.cmpi .eq (Scf.iv 0#32 1#32 k) 0#32 = BitVec.ofBool (decide (k = 0)) := by
  rw [iv_ofNat, show (0#32) = BitVec.ofNat 32 0 from rfl, cmp_eq (by omega) (by omega)]

theorem is_last (hk : k < 4096) : Scalar.cmpi .eq (Scf.iv 0#32 1#32 k) 4095#32 = BitVec.ofBool (decide (k = 4095)) := by
  rw [iv_ofNat, show (4095#32) = BitVec.ofNat 32 4095 from rfl, cmp_eq (by omega) (by omega)]

theorem next_fetched (hk : k < 4096) :
    Scalar.select (Scalar.andi (Scalar.andi (Scalar.cmpi .ne (Scalar.addi (BitVec.ofNat 32 k) (baseW L)) (Scalar.addi (nxtW (BitVec.ofNat 32 k)) (baseW L)))
        (Scalar.xori (Scalar.cmpi .sge (Scf.iv 0#32 1#32 k) 4095#32) 1#1)) 1#1)
      (Scalar.addi (BitVec.ofNat 32 (min (k + 1) 4096)) 1#32) (BitVec.ofNat 32 (min (k + 1) 4096)) = BitVec.ofNat 32 (min (k + 1 + 1) 4096) := by
  rw [ne_nxt L hk, iv_ofNat, show (4095#32) = BitVec.ofNat 32 4095 from rfl, cmp_sge (by omega) (by omega),
    show (1#32) = BitVec.ofNat 32 1 from rfl, addi_ofNat]
  by_cases h : k < 4095
  · rw [decide_eq_false (by omega), Nat.min_eq_left (by omega), Nat.min_eq_left (by omega)]; rfl
  · rw [decide_eq_true (by omega), Nat.min_eq_right (by omega), Nat.min_eq_right (by omega)]; rfl

end WordsLeft

section Trip

variable (d : Dev nD) (L : grid0.Coords)
variable (T : Buf (Elt F) (tLoc d)) (I : Buf (Elt F) (iLoc d)) (f₀ : Buf (Elt F) (oLoc d)) (q : PosShare TreeShare)
variable (O : CellTallies nD τ sig (HIx 1)) (W : Waits sig (HIx 1))

/-- The fetch before trip `k`: of block `k`, unless there is none. -/
def inState (k : ℕ) : sProp 𝕄 :=
  if k < 4096 then fetching d L I (sl k) (blk L k) else iprop(inFree (F := F) d L (sl k) ∗ semVal (thr d L, semIn (sl k)) 0)
/-- The write-back before trip `k + 1` is block `k`'s. -/
def outState : ℕ → sProp 𝕄
  | 0 => iprop(outFree (F := F) d L (sl 1) ∗ semVal (thr d L, semOut (sl 1)) 0)
  | k + 1 => writing d L T I (sl k) (blk L k)

/-- Before trip `k`. -/
def Inv (k : ℕ) (a : BitVec 32 × BitVec 32 × BitVec 32 × BitVec 32 × BitVec 32) : sProp 𝕄 :=
  iprop(⌜a = (BitVec.ofNat 32 (min (k + 1) 4096), BitVec.ofNat 32 k, BitVec.ofNat 32 k, BitVec.ofNat 32 (k - 1), BitVec.ofNat 32 (k % 4096))⌝
    ∗ Transfers.MayWaits (thr d L) (default : HIx 1) O ∗ owesW d L O W
    ∗ inState d L I k ∗ (inFree (F := F) d L (sl (k + 1)) ∗ semVal (thr d L, semIn (sl (k + 1))) 0)
    ∗ (outFree (F := F) d L (sl k) ∗ semVal (thr d L, semOut (sl k)) 0) ∗ outState d L T I k
    ∗ butOne (fun k => idxPts d I (blk L k)) k
    ∗ doneTo (fun k => resPts d (G d T I) (blk L k)) k ∗ todoFrom (fun k => resPts d f₀ (blk L k)) k
    ∗ tabPts d T q ∗ semVal (thr d L, semGa) 0)

variable [FloatOps F]

variable (hI : ∀ j, (I j).toNat < 65536)

theorem wp_done {α : Type} (x : α) {Q : α → sProp 𝕄} :
    Q x ⊢ wp frame (wpE (defs₀ (F := F)) 𝒱₀ (thr d L) none) Set.univ (Pure.pure x) Q := le_wp_ret _ _ _ x Q

/-- The trip's checks, and the fetch of the next block when there is one. -/
theorem part1_wp {k : ℕ} (t : Fin k0_t1_loop.trips) (ht : t.val = k) (hk : k < 4096) {Q} :
    iprop((inFree (F := F) d L (sl (k + 1)) ∗ semVal (thr d L, semIn (sl (k + 1))) 0) ∗ butOne (fun k => idxPts d I (blk L k)) k
        ∗ (∀ h3 h2 h1 a5 v64 v65 v66 v71 v76 v91 v96, ⌜v64 = BitVec.ofBool (decide (k = 0)) ∧ v65 = BitVec.ofBool (decide (k = 4095))
            ∧ Scalar.cmpi .ne v66 v71 = 1#1 ∧ Scalar.cmpi .ne v66 v76 = 1#1 ∧ v91 = BitVec.ofNat 32 (min (k + 1 + 1) 4096)⌝
          -∗ (inState d L I (k + 1) ∗ butTwo (fun k => idxPts d I (blk L k)) k) -∗ Q ⟨h3, h2, h1, a5, v64, v65, v66, v71, v76, v91, v96⟩))
      ⊢ wp frame (wpE (defs₀ (F := F)) 𝒱₀ (thr d L) none) Set.univ
        (k0_part1 (F := F) L tV (Memref.isWhole_whole _) iV (Memref.isWhole_whole _) oV (Memref.isWhole_whole _)
          sV (Memref.isWhole_whole _) cc0_scoped1 rV (Memref.isWhole_whole _) cc0_scoped3 cc0_scoped4 (baseW L) 0#32 1#32 t
          (BitVec.ofNat 32 (min (k + 1) 4096)) (BitVec.ofNat 32 k) (BitVec.ofNat 32 k) (BitVec.ofNat 32 (k - 1)) (BitVec.ofNat 32 k)) Q := by
  rw [k0_part1_eq_skeleton]
  unfold k0_part1_skel
  simp only [Prog.bind_lift]
  rw [wp_assume_of _ _ _ _ (chk3_ok hk.le), wp_assume_of _ _ _ _ (chk2_ok hk.le),
    wp_assume_of _ _ _ _ (chk1_ok L t ht hk (by omega) (by omega))]
  iintro ⟨⟨Hif, Hiv⟩, Hidx, HQ⟩
  by_cases hl : k < 4095
  · have hc : k0_cond1 L t (BitVec.ofNat 32 k) = 1#1 := by rw [cond1_eq L t ht hk, decide_eq_true hl]; rfl
    rw [dif_pos hc]
    ihave Hidx' := (Entails.of_eq (butOne_take (fun k => idxPts d I (blk L k)) (show k + 1 < 4096 by omega))) $$ Hidx
    icases Hidx' with ⟨Hi, Hidx⟩
    iapply (issue_in (F := F) d L I (n := sl (k + 1)) (b := blk L (k + 1)) ((off4_eq (k := min (k + 1) 4096) (by omega)).trans (by rw [Nat.min_eq_left (by omega)]; rfl))
      ((off5_eq L (by omega)).trans (by rw [blk_val L (by omega)])) ((off6_eq (k := min (k + 1) 4096) (by omega)).trans (by rw [Nat.min_eq_left (by omega)]; rfl))) $$ [Hi Hif Hiv]
    · isplitl [Hi]; · iexact Hi
      isplitl [Hif]; · iexact Hif
      iexact Hiv
    iintro Hf
    iapply (wp_done (F := F) d L)
    iapply HQ $$ [] [Hf Hidx]
    · ipureintro
      subst ht
      exact ⟨is_first hk, is_last hk, ne_prv L hk, ne_nxt L hk, next_fetched L hk⟩
    · isplitl [Hf]
      · unfold inState
        rw [if_pos (by omega)]
        iexact Hf
      · iexact Hidx
  · have hc : ¬ k0_cond1 L t (BitVec.ofNat 32 k) = 1#1 := by rw [cond1_eq L t ht hk, decide_eq_false hl]; decide
    rw [dif_neg hc]
    ihave Hidx' := (Entails.of_eq (butTwo_last (fun k => idxPts d I (blk L k)) (show 4096 ≤ k + 1 by omega))) $$ Hidx
    iapply (wp_done (F := F) d L)
    iapply HQ $$ [] [Hif Hiv Hidx']
    · ipureintro
      subst ht
      exact ⟨is_first hk, is_last hk, ne_prv L hk, ne_nxt L hk, next_fetched L hk⟩
    · isplitl [Hif Hiv]
      · unfold inState
        rw [if_neg (by omega)]
        isplitl [Hif]; · iexact Hif
        iexact Hiv
      · iexact Hidx'

include hI in
/-- The wait for the block's indices, and the gather of its rows. -/
theorem part2_wp {k : ℕ} (t : Fin k0_t1_loop.trips) (ht : t.val = k) (hk : k < 4096) {a6 a9 : BitVec 32} {h3 h2 h1 a5 v64 v65 v66 v71 v76 v96} {Q} :
    iprop(Transfers.MayWaits (thr d L) (default : HIx 1) O ∗ owesW d L O W ∗ inState d L I k ∗ outFree (F := F) d L (sl k) ∗ tabPts d T q ∗ semVal (thr d L, semGa) 0
        ∗ ((owesW d L O W ∗ (inFull d L I (sl k) (blk L k) ∗ semVal (thr d L, semIn (sl k)) 0) ∗ idxPts d I (blk L k) ∗ outFull d L T I (sl k) (blk L k) ∗ tabPts d T q ∗ semVal (thr d L, semGa) 0) -∗ Q ⟨⟩))
      ⊢ wp frame (wpE (defs₀ (F := F)) 𝒱₀ (thr d L) none) Set.univ
        (k0_part2 (F := F) L tV (Memref.isWhole_whole _) iV (Memref.isWhole_whole _) oV (Memref.isWhole_whole _)
          sV (Memref.isWhole_whole _) cc0_scoped1 rV (Memref.isWhole_whole _) cc0_scoped3 cc0_scoped4 t
          a6 (BitVec.ofNat 32 k) (BitVec.ofNat 32 k) a9 (BitVec.ofNat 32 k) h3 h2 h1 a5 v64 v65 v66 v71 v76 v96) Q := by
  rw [k0_part2_eq_skeleton]
  unfold k0_part2_skel
  rw [dif_pos (cond2_eq L t ht hk)]
  simp only [Prog.bind_lift, Prog.bind_op, ite_self]
  unfold inState
  rw [if_pos hk]
  iintro ⟨#Hmw, HO, Hin, Hof, Htab, Hga, HQ⟩
  iapply (wait_in (F := F) d L I (n := sl k) (b := blk L k) (off9_eq hk.le)) $$ [HO Hin]
  · isplitr; · iexact Hmw
    isplitl [Hin]; · iexact Hin
    iexact HO
  iintro ⟨⟨Hfull, Hi⟩, Hiv, HO⟩
  iapply (issue_gather (F := F) d L T I hI (q := q) (n := sl k) (n' := sl k) (b := blk L k) (off11_eq hk.le) (off10_eq hk.le)) $$ [Hfull Hof Htab Hga]
  · isplitl [Hfull]; · iexact Hfull
    isplitl [Hof]; · iexact Hof
    isplitl [Htab]; · iexact Htab
    iexact Hga
  iintro Hg
  iapply (wait_gather (F := F) d L T I (q := q) (n := sl k) (n' := sl k) (b := blk L k)) $$ [HO Hg]
  · isplitr; · iexact Hmw
    isplitl [Hg]; · iexact Hg
    iexact HO
  iintro ⟨⟨Hr, Htab, Hfull⟩, Hga, HO⟩
  iapply (wp_done (F := F) d L)
  iapply HQ
  isplitl [HO]; · iexact HO
  isplitl [Hfull Hiv]
  · isplitl [Hfull]; · iexact Hfull
    iexact Hiv
  isplitl [Hi]; · iexact Hi
  isplitl [Hr]; · iexact Hr
  isplitl [Htab]; · iexact Htab
  iexact Hga

/-- What a trip leaves is the state before the next trip. -/
theorem inv_next {k : ℕ} (hk : k < 4096) {a : BitVec 32 × BitVec 32 × BitVec 32 × BitVec 32 × BitVec 32}
    (ha : a = (BitVec.ofNat 32 (min (k + 1 + 1) 4096), BitVec.ofNat 32 (k + 1), BitVec.ofNat 32 (k + 1), BitVec.ofNat 32 k, BitVec.ofNat 32 ((k + 1) % 4096))) :
    iprop(Transfers.MayWaits (thr d L) (default : HIx 1) O ∗ owesW d L O W ∗ inState d L I (k + 1) ∗ butTwo (fun k => idxPts d I (blk L k)) k
        ∗ (inFull d L I (sl k) (blk L k) ∗ semVal (thr d L, semIn (sl k)) 0) ∗ idxPts d I (blk L k) ∗ writing d L T I (sl k) (blk L k)
        ∗ (outFree (F := F) d L (sl (k + 1)) ∗ semVal (thr d L, semOut (sl (k + 1))) 0)
        ∗ doneTo (fun k => resPts d (G d T I) (blk L k)) (k + 1) ∗ todoFrom (fun k => resPts d f₀ (blk L k)) (k + 1) ∗ tabPts d T q ∗ semVal (thr d L, semGa) 0)
      ⊢ Inv d L T I f₀ q O W (k + 1) a := by
  unfold Inv
  rw [show sl (k + 1 + 1) = sl k from sl_add_two k, show (k + 1 - 1) = k from rfl, butOne_put _ hk]
  iintro ⟨#Hmw, HO, Hin, Hidx, ⟨Hfull, Hiv⟩, Hi, Hw, Hof, Hdone, Htodo, Htab, Hga⟩
  isplitr; · ipureintro; exact ha
  isplitr; · iexact Hmw
  isplitl [HO]; · iexact HO
  isplitl [Hin]; · iexact Hin
  isplitl [Hfull Hiv]
  · isplitl [Hfull]; · iapply (inFull_free d L I (sl k) (blk L k)) $$ Hfull
    iexact Hiv
  isplitl [Hof]; · iexact Hof
  isplitl [Hw]; · unfold outState; iexact Hw
  isplitl [Hi Hidx]
  · isplitl [Hi]; · iexact Hi
    iexact Hidx
  isplitl [Hdone]; · iexact Hdone
  isplitl [Htodo]; · iexact Htodo
  isplitl [Htab]; · iexact Htab
  iexact Hga

/-- The words carried into the next trip. -/
theorem next_words {k : ℕ} (hk : k < 4096) {v64 v65 : BitVec 1} {v66 v71 v76 v91 : BitVec 32} (hv64 : v64 = BitVec.ofBool (decide (k = 0)))
    (h71 : Scalar.cmpi .ne v66 v71 = 1#1) (h76 : Scalar.cmpi .ne v66 v76 = 1#1) (h91 : v91 = BitVec.ofNat 32 (min (k + 1 + 1) 4096)) :
    (v91, Scalar.select (Scalar.ori (Scalar.cmpi .ne v66 v76) v65) (Scalar.addi (BitVec.ofNat 32 k) 1#32) (BitVec.ofNat 32 k),
      Scalar.select (Scalar.andi (Scalar.ori (Scalar.cmpi .ne v66 v76) v65) 1#1) (Scalar.addi (BitVec.ofNat 32 k) 1#32) (BitVec.ofNat 32 k),
      Scalar.select (Scalar.andi (Scalar.andi (Scalar.cmpi .ne v66 v71) (Scalar.xori v64 1#1)) 1#1)
        (Scalar.addi (BitVec.ofNat 32 (k - 1)) 1#32) (BitVec.ofNat 32 (k - 1)), nxtW (BitVec.ofNat 32 k))
      = (BitVec.ofNat 32 (min (k + 1 + 1) 4096), BitVec.ofNat 32 (k + 1), BitVec.ofNat 32 (k + 1), BitVec.ofNat 32 k, BitVec.ofNat 32 ((k + 1) % 4096)) := by
  have hor : Scalar.ori (1#1) v65 = 1#1 := by
    rcases BitVec.eq_zero_or_eq_one v65 with h | h <;> rw [h] <;> decide
  rw [h71, h76, h91, hv64, nxtW_ofNat hk, hor, show (1#32) = BitVec.ofNat 32 1 from rfl, addi_ofNat, addi_ofNat]
  rcases Nat.eq_zero_or_pos k with h | h
  · subst h; rfl
  · rw [decide_eq_false (by omega), show k - 1 + 1 = k by omega]; rfl

include hI in
/-- Trip `k` takes the state before it to the state before trip `k + 1`. -/
theorem trip (t : Fin k0_t1_loop.trips) (a : BitVec 32 × BitVec 32 × BitVec 32 × BitVec 32 × BitVec 32) :
    Inv d L T I f₀ q O W t.val a ⊢ wp frame (wpE (defs₀ (F := F)) 𝒱₀ (thr d L) none) Set.univ
      (k0_t1_body (F := F) L tV (Memref.isWhole_whole _) iV (Memref.isWhole_whole _) oV (Memref.isWhole_whole _)
        sV (Memref.isWhole_whole _) cc0_scoped1 rV (Memref.isWhole_whole _) cc0_scoped3 cc0_scoped4 (baseW L) t a)
      (Inv d L T I f₀ q O W (t.val + 1)) := by
  generalize hk' : t.val = k
  have hk : k < 4096 := hk' ▸ t.isLt
  conv_lhs => unfold Inv
  iintro ⟨%ha, #Hmw, HO, Hin, Hfree, ⟨Hof, Hov⟩, Hout, Hidx, Hdone, Htodo, Htab, Hga⟩
  subst ha
  rw [Nat.mod_eq_of_lt hk]
  unfold k0_t1_body
  simp only [wp_bind]
  iapply (part1_wp (F := F) d L I t hk' hk)
  isplitl [Hfree]; · iexact Hfree
  isplitl [Hidx]; · iexact Hidx
  iintro %h3 %h2 %h1 %a5 %v64 %v65 %v66 %v71 %v76 %v91 %v96 %hw ⟨Hin', Hidx⟩
  obtain ⟨hv64, hv65, h71, h76, h91⟩ := hw
  iapply (part2_wp (F := F) d L T I (q := q) (O := O) (W := W) hI t hk' hk)
  isplitr; · iexact Hmw
  isplitl [HO]; · iexact HO
  isplitl [Hin]; · iexact Hin
  isplitl [Hof]; · iexact Hof
  isplitl [Htab]; · iexact Htab
  isplitl [Hga]; · iexact Hga
  iintro ⟨HO, Hin, Hi, Hr, Htab, Hga⟩
  rw [dif_pos (cond5_eq L t hk' hk)]
  simp only [Prog.bind_lift, Prog.bind_op, ite_self, ← wp_bind, Prog.bind_pure]
  ihave Htodo' := (Entails.of_eq (todoFrom_take (fun k => resPts d f₀ (blk L k)) hk)) $$ Htodo
  icases Htodo' with ⟨Hres, Htodo⟩
  iapply (issue_out (F := F) d L T I (n := sl k) (b := blk L k) (off12_eq hk.le) ((off13_eq L hk).trans (by rw [blk_val L hk])) (off14_eq hk.le)) $$ [Hr Hres Hov]
  · isplitl [Hr]; · iexact Hr
    isplitl [Hres]; · iexact Hres
    iexact Hov
  iintro Hw
  have hn := next_words (v65 := v65) hk hv64 h71 h76 h91
  match k, hk, hk', hn with
  | 0, hk, hk', hn =>
    have hc : ¬ k0_cond7 L t (BitVec.ofNat 32 0) = 1#1 := by rw [cond7_eq L t hk' hk]; decide
    rw [dif_neg hc]
    iapply (wp_done (F := F) d L)
    iapply (inv_next d L T I f₀ q O W hk hn)
    unfold outState
    isplitr; · iexact Hmw
    isplitl [HO]; · iexact HO
    isplitl [Hin']; · iexact Hin'
    isplitl [Hidx]; · iexact Hidx
    isplitl [Hin]; · iexact Hin
    isplitl [Hi]; · iexact Hi
    isplitl [Hw]; · iexact Hw
    isplitl [Hout]; · iexact Hout
    isplitl [Hdone]; · iapply (Entails.of_eq (doneTo_one (fun k => resPts d (G d T I) (blk L k))).symm) $$ Hdone
    isplitl [Htodo]; · iexact Htodo
    isplitl [Htab]; · iexact Htab
    iexact Hga
  | k + 1, hk, hk', hn =>
    have hc : k0_cond7 L t (BitVec.ofNat 32 (k + 1)) = 1#1 := by rw [cond7_eq L t hk' hk, decide_eq_true (by omega)]; rfl
    rw [dif_pos hc]
    unfold outState
    iapply (wait_out (F := F) d L T I (n := sl k) (b := blk L k) (off17_eq (k := k) (by omega))) $$ [HO Hout]
    · isplitr; · iexact Hmw
      isplitl [Hout]; · iexact Hout
      iexact HO
    iintro ⟨⟨Hres, Hf⟩, Hov, HO⟩
    iapply (wp_done (F := F) d L)
    iapply (inv_next d L T I f₀ q O W hk hn)
    rw [show sl (k + 1 + 1) = sl k from sl_add_two k]
    isplitr; · iexact Hmw
    isplitl [HO]; · iexact HO
    isplitl [Hin']; · iexact Hin'
    isplitl [Hidx]; · iexact Hidx
    isplitl [Hin]; · iexact Hin
    isplitl [Hi]; · iexact Hi
    isplitl [Hw]; · iexact Hw
    isplitl [Hf Hov]
    · isplitl [Hf]; · iapply (outFull_free d L T I (sl k) (blk L k)) $$ Hf
      iexact Hov
    isplitl [Hdone Hres]
    · iapply (Entails.of_eq (doneTo_put (fun k => resPts d (G d T I) (blk L k)) (show k < 4096 by omega)).symm)
      isplitl [Hres]; · iexact Hres
      iexact Hdone
    isplitl [Htodo]; · iexact Htodo
    isplitl [Htab]; · iexact Htab
    iexact Hga

end Trip

end Cert.Kernel.Run
-- ==== Proof.Tile.lean ====
module

public import proofs.«01_k».proof.Proof.Trip

@[expose] public section

/-! # The gather on one subcore

A subcore's scratch buffers are its slots; the first fetch, the 4096 trips and the last write-back take the subcore's
blocks of the result from what they held to the gathered rows. -/

noncomputable section

namespace Cert.Kernel.Run

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type}

local notation "𝕄" => MT nD τ sig (HIx 1) (Elt F) ℕ UU ℕ

/-! ## The slots are the scratch buffers -/

theorem in_div : 2 ∣ S2x1x128.size 0 := ⟨1, rfl⟩
theorem out_div : 2 ∣ S2x128x128.size 0 := ⟨1, rfl⟩

theorem inSlot_set (n : Fin 2) : (inSlot n).view.set = (Rect.part (s := S2x1x128) (a₀ := 0) in_div n).set := by
  show (((View.whole (cc0_scoped0 : Ref sig .scVector)).slice (Rect.unit (s := S2x1x128) ![n.val, 0, 0] S1x1x128.size (inb_in n))).reshape S1x128
    squeezes_S1x1x128_S1x128.numel_eq).set = _
  rw [View.set_reshape, View.set_slice_whole]
  refine congrArg (fun r : Rect S2x1x128 => r.set) (?_ : Rect.unit (s := S2x1x128) ![n.val, 0, 0] S1x1x128.size (inb_in n) = Rect.part (s := S2x1x128) (a₀ := 0) in_div n)
  unfold Rect.part Rect.block
  congr 1 <;> funext a <;> match a with
    | 0 => simp [Shape.partIx, Shape.partSize]
    | 1 => simp [Shape.partIx, Shape.partSize]
    | 2 => simp [Shape.partIx, Shape.partSize]

theorem outSlot_set (n : Fin 2) : (outSlot n).view.set = (Rect.part (s := S2x128x128) (a₀ := 0) out_div n).set := by
  show (((View.whole (cc0_scoped2 : Ref sig .scVector)).slice (Rect.unit (s := S2x128x128) ![n.val, 0, 0] S1x128x128.size (inb_out n))).reshape S128x128
    squeezes_S1x128x128_S128x128.numel_eq).set = _
  rw [View.set_reshape, View.set_slice_whole]
  refine congrArg (fun r : Rect S2x128x128 => r.set) (?_ : Rect.unit (s := S2x128x128) ![n.val, 0, 0] S1x128x128.size (inb_out n) = Rect.part (s := S2x128x128) (a₀ := 0) out_div n)
  unfold Rect.part Rect.block
  congr 1 <;> funext a <;> match a with
    | 0 => simp [Shape.partIx, Shape.partSize]
    | 1 => simp [Shape.partIx, Shape.partSize]
    | 2 => simp [Shape.partIx, Shape.partSize]

section Slots

variable {ℓ : Loc nD τ sig} (S : Fin 2 → Finset ℓ.ty.Idx)
  (hd : ∀ i ∈ (Finset.univ : Finset (Fin 2)), ∀ j ∈ (Finset.univ : Finset (Fin 2)), i ≠ j → Disjoint (S i) (S j))
  (hc : (Finset.univ : Finset (Fin 2)).biUnion S = Finset.univ)

include hd hc in
/-- A buffer held whole at anything is its two halves, each at anything. -/
theorem halves : (iprop(∃ f : Buf (Elt F) ℓ, ℓ ↦{fullShare} f) : sProp 𝕄)
    ⊢ iprop((∃ f : Buf (Elt F) ℓ, ℓ ↦[S 0]{fullShare} f) ∗ (∃ f : Buf (Elt F) ℓ, ℓ ↦[S 1]{fullShare} f)) := by
  iintro ⟨%f, H⟩
  ihave H' := (Entails.of_eq (show (ℓ ↦{fullShare} f : sProp 𝕄) = iprop((ℓ ↦[S 0]{fullShare} f) ∗ (ℓ ↦[S 1]{fullShare} f)) by
    rw [← hc, pointsTo_biUnion Finset.univ (ℓ := ℓ) S hd, bigSep_univ_two])) $$ H
  icases H' with ⟨H0, H1⟩
  isplitl [H0]
  · iexists f; iexact H0
  · iexists f; iexact H1

include hd hc in
theorem whole_of_halves : (iprop((∃ f : Buf (Elt F) ℓ, ℓ ↦[S 0]{fullShare} f) ∗ (∃ f : Buf (Elt F) ℓ, ℓ ↦[S 1]{fullShare} f)) : sProp 𝕄)
    ⊢ iprop(∃ f : Buf (Elt F) ℓ, ℓ ↦{fullShare} f) := by
  iintro ⟨⟨%f, H0⟩, ⟨%g, H1⟩⟩
  ihave H := (Entails.of_eq (show (iprop((ℓ ↦[S 0]{fullShare} f) ∗ (ℓ ↦[S 1]{fullShare} g)) : sProp 𝕄)
    = bigSep Finset.univ (fun t : Fin 2 => ℓ ↦[S t]{fullShare} (![f, g] : Fin 2 → Buf (Elt F) ℓ) t) by rw [bigSep_univ_two]; rfl)) $$ [H0 H1]
  · isplitl [H0]; · iexact H0
    iexact H1
  ihave H' := (pointsTo_biUnion_join (ℓ := ℓ) (q := fullShare) (Val := Elt F) Finset.univ S ![f, g] f hd) $$ H
  icases H' with ⟨%h, -, H⟩
  iexists h
  rw [hc]
  iexact H

end Slots

section Tile

variable (d : Dev nD) (L : grid0.Coords)
variable (T : Buf (Elt F) (tLoc d)) (I : Buf (Elt F) (iLoc d)) (f₀ : Buf (Elt F) (oLoc d)) (q : PosShare TreeShare)
variable (O : CellTallies nD τ sig (HIx 1)) (W : Waits sig (HIx 1))

theorem in_disjoint : ∀ i ∈ (Finset.univ : Finset (Fin 2)), ∀ j ∈ (Finset.univ : Finset (Fin 2)), i ≠ j → Disjoint (inSlot i).view.set (inSlot j).view.set :=
  fun i _ j _ h => by rw [inSlot_set, inSlot_set]; exact Rect.part_disjoint in_div h
theorem in_cover : (Finset.univ : Finset (Fin 2)).biUnion (β := S2x1x128.Idx) (fun n => (inSlot n).view.set) = Finset.univ :=
  (Finset.biUnion_congr rfl fun i _ => inSlot_set i).trans (Rect.biUnion_part in_div)
theorem out_disjoint : ∀ i ∈ (Finset.univ : Finset (Fin 2)), ∀ j ∈ (Finset.univ : Finset (Fin 2)), i ≠ j → Disjoint (outSlot i).view.set (outSlot j).view.set :=
  fun i _ j _ h => by rw [outSlot_set, outSlot_set]; exact Rect.part_disjoint out_div h
theorem out_cover : (Finset.univ : Finset (Fin 2)).biUnion (β := S2x128x128.Idx) (fun n => (outSlot n).view.set) = Finset.univ :=
  (Finset.biUnion_congr rfl fun i _ => outSlot_set i).trans (Rect.biUnion_part out_div)

theorem in_split : (iprop(∃ f : Buf (Elt F) (sLoc d L), sLoc d L ↦{fullShare} f) : sProp 𝕄) ⊢ iprop(inFree (F := F) d L 0 ∗ inFree (F := F) d L 1) :=
  halves (ℓ := sLoc d L) (fun n => (inSlot n).view.set) in_disjoint in_cover
theorem in_join : (iprop(inFree (F := F) d L 0 ∗ inFree (F := F) d L 1) : sProp 𝕄) ⊢ iprop(∃ f : Buf (Elt F) (sLoc d L), sLoc d L ↦{fullShare} f) :=
  whole_of_halves (ℓ := sLoc d L) (fun n => (inSlot n).view.set) in_disjoint in_cover
theorem out_split : (iprop(∃ f : Buf (Elt F) (rLoc d L), rLoc d L ↦{fullShare} f) : sProp 𝕄) ⊢ iprop(outFree (F := F) d L 0 ∗ outFree (F := F) d L 1) :=
  halves (ℓ := rLoc d L) (fun n => (outSlot n).view.set) out_disjoint out_cover
theorem out_join : (iprop(outFree (F := F) d L 0 ∗ outFree (F := F) d L 1) : sProp 𝕄) ⊢ iprop(∃ f : Buf (Elt F) (rLoc d L), rLoc d L ↦{fullShare} f) :=
  whole_of_halves (ℓ := rLoc d L) (fun n => (outSlot n).view.set) out_disjoint out_cover

/-! ## The blocks before the first trip and after the last -/

section Ends
variable {M : Type} [URA M] (Φ : ℕ → sProp M)

theorem all_take : (bigSep Finset.univ fun j : Fin 4096 => Φ j.val) = iprop(Φ 0 ∗ butOne Φ 0) := by
  unfold butOne
  rw [SparseCore.bigSep_erase' (i := (⟨0, by omega⟩ : Fin 4096)) (Finset.mem_univ _),
    show Finset.univ.erase (⟨0, by omega⟩ : Fin 4096) = Finset.univ.filter (fun j : Fin 4096 => j.val ≠ 0) from
      Finset.ext fun j => by simp only [Finset.mem_erase, Finset.mem_filter, Finset.mem_univ, ne_eq, Fin.ext_iff, and_true, true_and]]
theorem of_all (p : Fin 4096 → Prop) [DecidablePred p] (h : ∀ j, p j) :
    (bigSep (Finset.univ.filter p) fun j : Fin 4096 => Φ j.val) = bigSep Finset.univ fun j : Fin 4096 => Φ j.val := by
  rw [Finset.filter_true_of_mem fun j _ => h j]
theorem all_todo : todoFrom Φ 0 = bigSep Finset.univ fun j : Fin 4096 => Φ j.val := of_all Φ _ fun j => Nat.zero_le _
theorem none_done : doneTo Φ 0 = iprop(emp) := by
  unfold doneTo
  rw [Finset.filter_false_of_mem fun j _ => Nat.not_lt_zero _]
  exact bigSep_empty
theorem all_done : iprop(Φ 4095 ∗ doneTo Φ 4096) = bigSep Finset.univ fun j : Fin 4096 => Φ j.val := by
  rw [← doneTo_put Φ (show 4095 < 4096 by omega)]
  exact of_all Φ _ fun j => by have := j.isLt; omega
theorem all_but_none : butOne Φ 4096 = bigSep Finset.univ fun j : Fin 4096 => Φ j.val :=
  of_all Φ _ fun j => by have := j.isLt; omega

end Ends

theorem pure_step {E : Type → Type} {α β : Type} (x : α) (k : α → Prog E β) : (Pure.pure x : Prog E α) >>= k = k x := rfl

variable [FloatOps F]
variable (hI : ∀ j, (I j).toNat < 65536)

/-- A subcore's part of the launch's arrays: its blocks of the indices, a share of the table, its blocks of the result. -/
def part (f : Buf (Elt F) (oLoc d)) : sProp 𝕄 :=
  iprop((bigSep Finset.univ fun j : Fin 4096 => idxPts d I (blk L j.val)) ∗ tabPts d T q ∗ (bigSep Finset.univ fun j : Fin 4096 => resPts d f (blk L j.val)))

/-- The subcore's slots and semaphores. -/
def slots : sProp 𝕄 :=
  iprop((inFree (F := F) d L 0 ∗ inFree (F := F) d L 1) ∗ (outFree (F := F) d L 0 ∗ outFree (F := F) d L 1)
    ∗ semVal (thr d L, semIn 0) 0 ∗ semVal (thr d L, semIn 1) 0 ∗ semVal (thr d L, semOut 0) 0 ∗ semVal (thr d L, semOut 1) 0 ∗ semVal (thr d L, semGa) 0)

theorem start_words : ((Scalar.addi 0#32 1#32, 0#32, 0#32, 0#32, 0#32) : BitVec 32 × BitVec 32 × BitVec 32 × BitVec 32 × BitVec 32)
    = (BitVec.ofNat 32 (min (0 + 1) 4096), BitVec.ofNat 32 0, BitVec.ofNat 32 0, BitVec.ofNat 32 (0 - 1), BitVec.ofNat 32 (0 % 4096)) := by decide

set_option maxHeartbeats 1000000 in
include hI in
/-- The subcore's whole run. -/
theorem tile_run :
    iprop(Transfers.MayWaits (thr d L) (default : HIx 1) O ∗ owesW d L O W ∗ part d L T I q f₀ ∗ slots (F := F) d L)
      ⊢ wp frame (wpE (defs₀ (F := F)) 𝒱₀ (thr d L) none) Set.univ
          (cc0_gather L tV (Memref.isWhole_whole _) iV (Memref.isWhole_whole _) oV (Memref.isWhole_whole _)
            sV (Memref.isWhole_whole _) cc0_scoped1 rV (Memref.isWhole_whole _) cc0_scoped3 cc0_scoped4)
          fun _ => iprop(owesW d L O W ∗ part d L T I q (G d T I) ∗ slots (F := F) d L) := by
  rw [cc0_gather_eq_skeleton]
  unfold cc0_gather_skel
  rw [k0_part3_eq_skeleton, k0_part4_eq_skeleton]
  unfold k0_part3_skel k0_part4_skel
  simp only [Prog.bind_lift, Prog.bind_op, Prog.bind_pure, Prog.bind_assoc]
  unfold part slots
  iintro ⟨#Hmw, HO, ⟨Hidx, Htab, Hres⟩, ⟨Hi0, Hi1⟩, ⟨Ho0, Ho1⟩, Hsi0, Hsi1, Hso0, Hso1, Hga⟩
  ihave Hidx' := (Entails.of_eq (all_take (fun k => idxPts d I (blk L k)))) $$ Hidx
  icases Hidx' with ⟨Hi, Hidx⟩
  iapply (issue_in (F := F) d L I (n := sl 0) (b := blk L 0) k0_off1_eq ((off2_eq L).trans (by rw [blk_val L (by omega)])) k0_off3_eq) $$ [Hi Hi0 Hsi0]
  · isplitl [Hi]; · iexact Hi
    isplitl [Hi0]; · iexact Hi0
    iexact Hsi0
  iintro Hf
  simp only [pure_step]
  unfold Scf.Loop.for
  iapply (Scf.wp_for_bind frame (wpE (defs₀ (F := F)) 𝒱₀ (thr d L) none) Set.univ _ _ _ k0_t1_ok _ _ (Inv d L T I f₀ q O W) (trip d L T I f₀ q O W hI)) $$ [HO Hf Hi1 Hsi1 Ho0 Hso0 Ho1 Hso1 Hidx Hres Htab Hga]
  · unfold Inv inState outState
    rw [if_pos (by omega), none_done, all_todo]
    isplitr; · ipureintro; exact start_words
    isplitr; · iexact Hmw
    isplitl [HO]; · iexact HO
    isplitl [Hf]; · iexact Hf
    isplitl [Hi1 Hsi1]
    · isplitl [Hi1]; · iexact Hi1
      iexact Hsi1
    isplitl [Ho0 Hso0]
    · isplitl [Ho0]; · iexact Ho0
      iexact Hso0
    isplitl [Ho1 Hso1]
    · isplitl [Ho1]; · iexact Ho1
      iexact Hso1
    isplitl [Hidx]; · iexact Hidx
    isplitr; · iempintro
    isplitl [Hres]; · iexact Hres
    isplitl [Htab]; · iexact Htab
    iexact Hga
  iintro %a Hinv
  rw [show Scf.trips k0_t1_loop.lb k0_t1_loop.ub k0_t1_loop.st = 4096 from rfl]
  unfold Inv inState
  rw [if_neg (by omega), all_but_none, show outState d L T I 4096 = writing d L T I (sl 4095) (blk L 4095) from rfl]
  icases Hinv with ⟨%ha, -, HO, ⟨Hi0, Hsi0⟩, ⟨Hi1, Hsi1⟩, ⟨Ho0, Hso0⟩, Hw, Hidx, Hdone, -, Htab, Hga⟩
  subst ha
  rw [wp_assume_of _ _ _ _ (chk5_ok L), wp_assume_of _ _ _ _ (chk4_ok (k := 4095) (by omega))]
  iapply (wait_out (F := F) d L T I (n := sl 4095) (b := blk L 4095) (off20_eq (k := 4095) (by omega))) $$ [HO Hw]
  · isplitr; · iexact Hmw
    isplitl [Hw]; · iexact Hw
    iexact HO
  iintro ⟨⟨Hres, Ho1⟩, Hso1, HO⟩
  iapply (wp_done (F := F) d L)
  isplitl [HO]; · iexact HO
  isplitl [Hidx Htab Hdone Hres]
  · isplitl [Hidx]; · iexact Hidx
    isplitl [Htab]; · iexact Htab
    iapply (Entails.of_eq (all_done (fun k => resPts d (G d T I) (blk L k))))
    isplitl [Hres]; · iexact Hres
    iexact Hdone
  isplitl [Hi0 Hi1]
  · isplitl [Hi0]; · iexact Hi0
    iexact Hi1
  isplitl [Ho0 Ho1]
  · isplitl [Ho0]; · iexact Ho0
    iapply (outFull_free d L T I (sl 4095) (blk L 4095)) $$ Ho1
  isplitl [Hsi0]; · iexact Hsi0
  isplitl [Hsi1]; · iexact Hsi1
  isplitl [Hso0]; · iexact Hso0
  isplitl [Hso1]; · iexact Hso1
  iexact Hga

end Tile

end Cert.Kernel.Run
-- ==== Proof.Launch.lean ====
module

public import proofs.«01_k».proof.Proof.Tile
public import Idealize.ShloMosaic.Lib.Pipeline.Frame

@[expose] public section

/-! # The gather's launch

The host's operations make the row of indices; the call's handshakes hand every subcore its blocks of it, a share of
the table and its blocks of the result, and bring them back with the rows gathered. -/

noncomputable section

namespace Cert.Kernel.Run

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.ShareLeaves (leaf pointsTo_leaves)

variable {F : FTy → Type}

local notation "𝕄" => MT nD τ sig (HIx 1) (Elt F) ℕ UU ℕ

/-! ## The arrays as the subcores' blocks -/

/-- The grid position of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The subcores in order of their blocks. -/
def tileEquiv : Fin 2 × Fin 16 ≃ Fin (2 ^ 5) := finProdFinEquiv.trans (finCongr (by decide))
/-- The blocks, a subcore's together. -/
def blkEquiv : (Fin 2 × Fin 16) × Fin 4096 ≃ Fin 131072 :=
  ((Equiv.prodCongr finProdFinEquiv (Equiv.refl _)).trans finProdFinEquiv).trans (finCongr (by decide))

theorem blkEquiv_eq (c : Fin 2) (i : Fin 16) (j : Fin 4096) : blkEquiv ((c, i), j) = blk (coordsV c i) j.val := by
  refine Fin.ext ?_
  rw [blk_val _ j.isLt]
  show j.val + 4096 * (i.val + 16 * c.val) = (i.val + 16 * c.val) * 4096 + j.val
  omega

theorem blocks {M : Type} [URA M] (Φ : Fin 131072 → sProp M) :
    bigSep Finset.univ Φ = bigSep Finset.univ fun c : Fin 2 => bigSep Finset.univ fun i : Fin 16 => bigSep Finset.univ fun j : Fin 4096 => Φ (blk (coordsV c i) j.val) := by
  rw [bigSep_univ_equiv blkEquiv Φ, bigSep_univ_prod, bigSep_univ_prod]
  exact bigSep_congr fun c _ => bigSep_congr fun i _ => bigSep_congr fun j _ => by rw [blkEquiv_eq]

theorem idx_div : 131072 ∣ S1x16777216.size 1 := ⟨128, rfl⟩
theorem res_div : 131072 ∣ S16777216x128.size 0 := ⟨128, rfl⟩

theorem idxBlk_set (b : Fin 131072) : (idxBlk b).view.set = (Rect.part (s := S1x16777216) (a₀ := 1) idx_div b).set := by
  show ((View.whole (main_v9_scv : Ref sig .scVector)).slice (Rect.unit (s := S1x16777216) ![0, 128 * b.val] S1x128.size (inb_idx b.isLt rfl))).set = _
  rw [View.set_slice_whole]
  refine congrArg (fun r : Rect S1x16777216 => r.set) (?_ : Rect.unit (s := S1x16777216) ![0, 128 * b.val] S1x128.size (inb_idx b.isLt rfl) = Rect.part (s := S1x16777216) (a₀ := 1) idx_div b)
  unfold Rect.part Rect.block
  congr 1 <;> funext a <;> match a with
    | 0 => simp [Shape.partIx, Shape.partSize]
    | 1 => simp [Shape.partIx, Shape.partSize, Nat.mul_comm]

theorem resBlk_set (b : Fin 131072) : (resBlk b).view.set = (Rect.part (s := S16777216x128) (a₀ := 0) res_div b).set := by
  show ((View.whole (main_v10_scv : Ref sig .scVector)).slice (Rect.unit (s := S16777216x128) ![128 * b.val, 0] S128x128.size (inb_res b.isLt rfl))).set = _
  rw [View.set_slice_whole]
  refine congrArg (fun r : Rect S16777216x128 => r.set) (?_ : Rect.unit (s := S16777216x128) ![128 * b.val, 0] S128x128.size (inb_res b.isLt rfl) = Rect.part (s := S16777216x128) (a₀ := 0) res_div b)
  unfold Rect.part Rect.block
  congr 1 <;> funext a <;> match a with
    | 0 => simp [Shape.partIx, Shape.partSize, Nat.mul_comm]
    | 1 => simp [Shape.partIx, Shape.partSize]

theorem idx_all (d : Dev nD) (I : Buf (Elt F) (iLoc d)) : (iLoc d ↦{fullShare} I : sProp 𝕄)
    = bigSep Finset.univ fun c : Fin 2 => bigSep Finset.univ fun i : Fin 16 => bigSep Finset.univ fun j : Fin 4096 => idxPts d I (blk (coordsV c i) j.val) := by
  rw [← blocks (fun b => idxPts d I b)]
  unfold idxPts
  rw [← pointsTo_biUnion Finset.univ (ℓ := iLoc d) (fun b => (idxBlk b).view.set)
    (fun i _ j _ h => by rw [idxBlk_set, idxBlk_set]; exact Rect.part_disjoint idx_div h),
    (Finset.biUnion_congr rfl fun i _ => idxBlk_set i).trans (Rect.biUnion_part idx_div)]

theorem res_all (d : Dev nD) (f : Buf (Elt F) (oLoc d)) : (oLoc d ↦{fullShare} f : sProp 𝕄)
    = bigSep Finset.univ fun c : Fin 2 => bigSep Finset.univ fun i : Fin 16 => bigSep Finset.univ fun j : Fin 4096 => resPts d f (blk (coordsV c i) j.val) := by
  rw [← blocks (fun b => resPts d f b)]
  unfold resPts
  rw [← pointsTo_biUnion Finset.univ (ℓ := oLoc d) (fun b => (resBlk b).view.set)
    (fun i _ j _ h => by rw [resBlk_set, resBlk_set]; exact Rect.part_disjoint res_div h),
    (Finset.biUnion_congr rfl fun i _ => resBlk_set i).trans (Rect.biUnion_part res_div)]

/-- A subcore's share of the table. -/
abbrev tq (c : Fin 2) (i : Fin 16) : PosShare TreeShare := leaf 5 fullShare (tileEquiv (c, i))

theorem tab_set : (tabV.view.set : Finset S65536x128.Idx) = Finset.univ := by
  show ((View.whole (main_arg0_scv : Ref sig .scVector)).slice (Rect.unit (s := S65536x128) ![0, 0] S65536x128.size inb_S65536x128_S65536x128_0_0)).set = _
  rw [View.set_slice_whole]
  ext j
  simp only [Rect.mem_set_unit, Finset.mem_univ, iff_true]
  intro a
  match a with
  | 0 => exact ⟨Nat.zero_le _, (Nat.zero_add _).symm ▸ (j 0).isLt⟩
  | 1 => exact ⟨Nat.zero_le _, (Nat.zero_add _).symm ▸ (j 1).isLt⟩

theorem tab_all (d : Dev nD) (T : Buf (Elt F) (tLoc d)) : (tLoc d ↦{fullShare} T : sProp 𝕄)
    = bigSep Finset.univ fun c : Fin 2 => bigSep Finset.univ fun i : Fin 16 => tabPts d T (tq c i) := by
  rw [pointsTo_leaves Finset.univ T 5 fullShare, bigSep_univ_equiv tileEquiv, bigSep_univ_prod]
  refine bigSep_congr fun c _ => bigSep_congr fun i _ => ?_
  unfold tabPts
  exact congrArg (fun s => (tLoc d ↦[s]{tq c i} T : sProp 𝕄)) tab_set.symm

/-- The three arrays are the subcores' parts. -/
theorem parts (d : Dev nD) (T : Buf (Elt F) (tLoc d)) (I : Buf (Elt F) (iLoc d)) (f : Buf (Elt F) (oLoc d)) :
    (bigSep Finset.univ fun c : Fin 2 => bigSep Finset.univ fun i : Fin 16 => part d (coordsV c i) T I (tq c i) f : sProp 𝕄)
      = iprop((iLoc d ↦{fullShare} I) ∗ (tLoc d ↦{fullShare} T) ∗ (oLoc d ↦{fullShare} f)) := by
  rw [idx_all, tab_all, res_all, ← bigSep_sep', ← bigSep_sep']
  refine bigSep_congr fun c _ => ?_
  rw [← bigSep_sep', ← bigSep_sep']
  rfl

instance part_storable (d : Dev nD) (L : grid0.Coords) (T : Buf (Elt F) (tLoc d)) (I : Buf (Elt F) (iLoc d)) (q : PosShare TreeShare) (f : Buf (Elt F) (oLoc d)) :
    BI.Storable (upEmb : UEmb _ 𝕄) (part d L T I q f) := by
  unfold part idxPts tabPts resPts
  infer_instance

/-! ## The host's operations -/

variable [FloatOps F]

/-- The operations before the call. -/
abbrev ops : List (HloOp τ sig (Elt F)) :=
  [ nullary main_v0 (iotaInDim S4 32 0),
    unary main_v0 main_v1 (broadcastInDim S1x4x1 ![1] bcast_S4_S1x4x1_1 : (⟨S4, .i32⟩ : BufTy).Contents (Elt F) → (⟨S1x4x1, .i32⟩ : BufTy).Contents (Elt F)),
    unary main_arg1 main_v2 (broadcastInDim S32768x1x128 ![0, 2] bcast_S32768x128_S32768x1x128_0_2 : (⟨S32768x128, .i32⟩ : BufTy).Contents (Elt F) → (⟨S32768x1x128, .i32⟩ : BufTy).Contents (Elt F)),
    nullary main_c (constantI S_ 32 4#32),
    unary main_c main_v3 (broadcastInDim S32768x1x128 ![] bcast_S_S32768x1x128 : (⟨S_, .i32⟩ : BufTy).Contents (Elt F) → (⟨S32768x1x128, .i32⟩ : BufTy).Contents (Elt F)),
    binary main_v2 main_v3 main_v4 (muli : (⟨S32768x1x128, .i32⟩ : BufTy).Contents (Elt F) → (⟨S32768x1x128, .i32⟩ : BufTy).Contents (Elt F) → (⟨S32768x1x128, .i32⟩ : BufTy).Contents (Elt F)),
    unary main_v4 main_v5 (broadcastInDim S32768x4x128 ![0, 1, 2] bcast_S32768x1x128_S32768x4x128_0_1_2 : (⟨S32768x1x128, .i32⟩ : BufTy).Contents (Elt F) → (⟨S32768x4x128, .i32⟩ : BufTy).Contents (Elt F)),
    unary main_v1 main_v6 (broadcastInDim S32768x4x128 ![0, 1, 2] bcast_S1x4x1_S32768x4x128_0_1_2 : (⟨S1x4x1, .i32⟩ : BufTy).Contents (Elt F) → (⟨S32768x4x128, .i32⟩ : BufTy).Contents (Elt F)),
    binary main_v5 main_v6 main_v7 (addi : (⟨S32768x4x128, .i32⟩ : BufTy).Contents (Elt F) → (⟨S32768x4x128, .i32⟩ : BufTy).Contents (Elt F) → (⟨S32768x4x128, .i32⟩ : BufTy).Contents (Elt F)),
    reshape main_v7 main_v8 (rfl : (.i32 : EltTy) = .i32) shapeCasts_S32768x4x128_S16777216,
    reshape main_v8 main_v9 (rfl : (.i32 : EltTy) = .i32) shapeCasts_S16777216_S1x16777216 ]

theorem main_eq (d : Dev nD) : main (F := F) d = seq ops >>= fun _ => (sc (F := F)).run d 0 := rfl

section Launch

variable (m : (ℓ : Loc nD τ sig) → Buf (Elt F) ℓ) (ρ : Dev nD → PrngReg)

/-- The device's arrays at the launch, and before the call. -/
def V0 (d : Dev nD) : Valuation τ sig (Elt F) := fun b => m (d, b)
def V1 (d : Dev nD) : Valuation τ sig (Elt F) := after (ops (F := F)) (V0 m d)

/-- The row of indices the host makes. -/
def idxOf (A : (⟨S32768x128, .i32⟩ : BufTy).Contents (Elt F)) : (⟨S1x16777216, .i32⟩ : BufTy).Contents (Elt F) :=
  shapeCast _ (shapeCast _ (addi
    (broadcastInDim S32768x4x128 ![0, 1, 2] bcast_S32768x1x128_S32768x4x128_0_1_2
      (muli (broadcastInDim S32768x1x128 ![0, 2] bcast_S32768x128_S32768x1x128_0_2 A) (broadcastInDim S32768x1x128 ![] bcast_S_S32768x1x128 (constantI S_ 32 4#32))))
    (broadcastInDim S32768x4x128 ![0, 1, 2] bcast_S1x4x1_S32768x4x128_0_1_2 (broadcastInDim S1x4x1 ![1] bcast_S4_S1x4x1_1 (iotaInDim S4 32 0))))
    shapeCasts_S32768x4x128_S16777216) shapeCasts_S16777216_S1x16777216

abbrev Tm (d : Dev nD) : Buf (Elt F) (tLoc d) := m (tLoc d)
abbrev aLoc (d : Dev nD) : Loc nD τ sig := (SparseCore.T d).loc main_arg1
abbrev Im (d : Dev nD) : Buf (Elt F) (iLoc d) := idxOf (m (aLoc d))

theorem V1_t (d : Dev nD) : V1 m d (Proc.devRef .tc main_arg0) = m (tLoc d) := by
  unfold V1; after_results <;> rfl
theorem V1_a (d : Dev nD) : V1 m d (Proc.devRef .tc main_arg1) = m (aLoc d) := by
  unfold V1; after_results <;> rfl
theorem V1_i (d : Dev nD) : V1 m d (Proc.devRef .tc main_v9) = Im m d := by
  unfold V1; after_results <;> rfl
theorem V1_o (d : Dev nD) : V1 m d (Proc.devRef .tc main_v10) = m (oLoc d) := by
  unfold V1; after_results <;> rfl

/-- What the proof asks of the launch memory: every index names a row of the table. -/
def PreOK : Prop := ∀ (d : Dev nD) j, (Im m d j).toNat < 65536

/-! ## What the handshakes carry -/

theorem nCore_zero : (K (F := F)).nCore 0 = 2 := rfl

/-- A subcore's part of the arrays, the result at `f`; a core's. -/
@[irreducible] def tilePart (d : Dev nD) (c : Fin 2) (i : Fin 16) (f : Buf (Elt F) (oLoc d)) : sProp 𝕄 := part d (coordsV c i) (Tm m d) (Im m d) (tq c i) f
@[irreducible] def corePart (d : Dev nD) (c : Fin 2) (f : Buf (Elt F) (oLoc d)) : sProp 𝕄 := bigSep Finset.univ fun i : Fin 16 => tilePart m d c i f

instance tilePart_storable (d : Dev nD) (c : Fin 2) (i : Fin 16) (f : Buf (Elt F) (oLoc d)) : BI.Storable (upEmb : UEmb _ 𝕄) (tilePart m d c i f) := by
  unfold tilePart; infer_instance
instance corePart_storable (d : Dev nD) (c : Fin 2) (f : Buf (Elt F) (oLoc d)) : BI.Storable (upEmb : UEmb _ 𝕄) (corePart m d c f) := by
  unfold corePart; infer_instance

/-- The gathered result. -/
@[irreducible] def Gm (d : Dev nD) : Buf (Elt F) (oLoc d) := G d (Tm m d) (Im m d)

def P : (K (F := F)).Pay (nD := nD) (Val := Elt F) (Name := ℕ) (U := UU) where
  st := fun q d c => match q with | 0 => corePart m d (Fin.cast nCore_zero c) (m (oLoc d))
  dn := fun q d c => match q with | 0 => corePart m d (Fin.cast nCore_zero c) (Gm m d)
  go := fun q d c i => match q with | 0 => tilePart m d (Fin.cast nCore_zero c) (Fin.cast nSub_zero i) (m (oLoc d))
  td := fun q d c i => match q with | 0 => tilePart m d (Fin.cast nCore_zero c) (Fin.cast nSub_zero i) (Gm m d)
  x := fun _ _ => iprop(emp)

instance P_storable : (P (F := F) m).IsStorable where
  st q d c := match q with | 0 => corePart_storable m d (Fin.cast nCore_zero c) (m (oLoc d))
  dn q d c := match q with | 0 => corePart_storable m d (Fin.cast nCore_zero c) (Gm m d)
  go q d c i := match q with | 0 => tilePart_storable m d (Fin.cast nCore_zero c) (Fin.cast nSub_zero i) (m (oLoc d))
  td q d c i := match q with | 0 => tilePart_storable m d (Fin.cast nCore_zero c) (Fin.cast nSub_zero i) (Gm m d)

/-! ## The task -/

section Task

variable (d : Dev nD) (L : grid0.Coords)

abbrev cell (s : SemLoc sig) : GSem nD τ sig := (thr d L, s)

theorem ownSems0_V :
    (ownSems0 (thr d L) : sProp 𝕄)
      = iprop(semVal (thr d L, semIn 0) 0 ∗ semVal (thr d L, semIn 1) 0 ∗ semVal (thr d L, semOut 0) 0 ∗ semVal (thr d L, semOut 1) 0 ∗ semVal (thr d L, semGa) 0
          ∗ bigSep ((((((ownCells (thr d L)).erase (cell d L (semIn 0))).erase (cell d L (semIn 1))).erase (cell d L (semOut 0))).erase (cell d L (semOut 1))).erase (cell d L semGa))
              fun g => semVal g 0) := by
  have mem : ∀ s : SemLoc sig, s.isScoped .scVector = true → cell d L s ∈ ownCells (thr d L) := fun s h => (mem_ownCells (g := cell d L s)).mpr ⟨rfl, h⟩
  have ne : ∀ {s s' : SemLoc sig}, s ≠ s' → cell d L s ≠ cell d L s' := fun h e => h (congrArg Prod.snd e)
  unfold SparseCore.Cfg.ownSems0
  rw [SparseCore.bigSep_erase' (mem (semIn 0) (by decide)),
    SparseCore.bigSep_erase' (Finset.mem_erase.mpr ⟨ne (by decide), mem (semIn 1) (by decide)⟩),
    SparseCore.bigSep_erase' (Finset.mem_erase.mpr ⟨ne (by decide), Finset.mem_erase.mpr ⟨ne (by decide), mem (semOut 0) (by decide)⟩⟩),
    SparseCore.bigSep_erase' (Finset.mem_erase.mpr ⟨ne (by decide), Finset.mem_erase.mpr ⟨ne (by decide), Finset.mem_erase.mpr ⟨ne (by decide), mem (semOut 1) (by decide)⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), mem semGa (by decide)⟩⟩⟩⟩)]

/-- The two scratch buffers are among the subcore's own. -/
theorem ownBufs_V :
    (ownBufs (thr d L) : sProp 𝕄)
      = iprop((∃ f, sLoc d L ↦{fullShare} f) ∗ (∃ f, rLoc d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- The task on one subcore: its part of the arrays in, the same with its blocks of the result gathered out. -/
theorem tile_body (T : Buf (Elt F) (tLoc d)) (I : Buf (Elt F) (iLoc d)) (f₀ : Buf (Elt F) (oLoc d)) (q : PosShare TreeShare) (hI : ∀ j, (I j).toNat < 65536)
    (O : CellTallies nD τ sig (HIx 1)) (W : Waits sig (HIx 1)) (hO : ∀ g, O g none = 0) :
    iprop(levAts (K (F := F)).L (K (F := F)).lev ∗ emp ∗ part d L T I q f₀ ∗ scopedBufs (thr d L) ∗ scopedSems0 (thr d L) ∗ owes (thr d L) O W)
      ⊢ wp frame (wpE (defs₀ (F := F)) 𝒱₀ (thr d L) none) Set.univ
          (cc0_gather L tV (Memref.isWhole_whole _) iV (Memref.isWhole_whole _) oV (Memref.isWhole_whole _)
            sV (Memref.isWhole_whole _) cc0_scoped1 rV (Memref.isWhole_whole _) cc0_scoped3 cc0_scoped4)
          fun _ => iprop(part d L T I q (G d T I) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  iintro ⟨#Hlv, -, Hp, ⟨Hs, Hr, Hbufs⟩, ⟨Hsi0, Hsi1, Hso0, Hso1, Hga, Hsems⟩, HO⟩
  ihave Hmw := (show levAts (K (F := F)).L (K (F := F)).lev ⊢ Transfers.MayWaits (thr d L) (default : HIx 1) O from
    (K (F := F)).mayWaits_none (thr := thr d L) hO) $$ Hlv
  ihave Hs' := (in_split (F := F) d L) $$ Hs
  ihave Hr' := (out_split (F := F) d L) $$ Hr
  iapply (wp_wand_r frame _ _)
  isplitl [Hmw HO Hp Hs' Hr' Hsi0 Hsi1 Hso0 Hso1 Hga]
  · iapply (tile_run (F := F) d L T I f₀ q O W hI)
    isplitl [Hmw]; · iexact Hmw
    isplitl [HO]
    · unfold owesW
      iexists W; isplitr
      · ipureintro; exact fun p hp => .inl hp
      · iexact HO
    isplitl [Hp]; · iexact Hp
    unfold slots
    isplitl [Hs']; · iexact Hs'
    isplitl [Hr']; · iexact Hr'
    isplitl [Hsi0]; · iexact Hsi0
    isplitl [Hsi1]; · iexact Hsi1
    isplitl [Hso0]; · iexact Hso0
    isplitl [Hso1]; · iexact Hso1
    iexact Hga
  unfold owesW slots
  iintro %a ⟨HO, Hp, Hs, Hr, Hsi0, Hsi1, Hso0, Hso1, Hga⟩
  isplitl [Hp]; · iexact Hp
  isplitl [Hs Hr Hbufs]
  · isplitl [Hs]; · iapply (in_join (F := F) d L) $$ Hs
    isplitl [Hr]; · iapply (out_join (F := F) d L) $$ Hr
    iexact Hbufs
  isplitl [Hsi0 Hsi1 Hso0 Hso1 Hga Hsems]
  · isplitl [Hsi0]; · iexact Hsi0
    isplitl [Hsi1]; · iexact Hsi1
    isplitl [Hso0]; · iexact Hso0
    isplitl [Hso1]; · iexact Hso1
    isplitl [Hga]; · iexact Hga
    iexact Hsems
  iexact HO

end Task

/-! ## The call's obligation -/

theorem defs₀_vector (c : Fin τ.nSC) (s : Fin τ.nSub) :
    defs₀ (F := F) (.scVector c s) 0 ()
      = SparseCore.onTile hcore0 hsub0 (fun c s => cc0_gather (coordsV c s)
          tV (Memref.isWhole_whole _) iV (Memref.isWhole_whole _) oV (Memref.isWhole_whole _)
          sV (Memref.isWhole_whole _) cc0_scoped1 rV (Memref.isWhole_whole _) cc0_scoped3 cc0_scoped4) ⟨⟩ c s := rfl

omit [FloatOps F] in
/-- A wait recorded by no step is one of those the call may record. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have e : ∀ f, tilePart m d (Fin.cast nCore_zero c) (Fin.cast nSub_zero i) f
      = part d (coordsV ⟨_, hci.1⟩ ⟨_, hci.2⟩) (Tm m d) (Im m d) (tq (Fin.cast nCore_zero c) (Fin.cast nSub_zero i)) f := fun f => by
    unfold tilePart; rfl
  rw [show (P m).go 0 d c i = _ from e (m (oLoc d)), show (P m).td 0 d c i = _ from e (Gm m d), show Gm m d = G d (Tm m d) (Im m d) by unfold Gm; rfl]
  exact (tile_body d (coordsV ⟨_, hci.1⟩ ⟨_, hci.2⟩) (Tm m d) (Im m d) (m (oLoc d)) (tq (Fin.cast nCore_zero c) (Fin.cast nSub_zero i)) (hpre d) O W hO).trans
    (wp_mono frame _ _ fun _ => obl_post (q := 0))

omit [FloatOps F] in
theorem bigSep_tasks (Φ : Fin 16 → sProp 𝕄) :
    (bigSep Finset.univ fun i : Fin ((K (F := F)).nSub 0) => Φ (Fin.cast nSub_zero i)) = bigSep Finset.univ Φ := rfl
theorem bigSep_cores (Φ : Fin 2 → sProp 𝕄) :
    (bigSep Finset.univ fun c : Fin ((K (F := F)).nCore 0) => Φ (Fin.cast nCore_zero c)) = bigSep Finset.univ Φ := rfl

set_option maxRecDepth 16384 in
/-- A core's part is its subcores' parts, so nothing is to be divided. -/
theorem vecSplit : (K (F := F)).VecSplit' (P m) 0 := by
  intro d c
  show corePart m d (Fin.cast nCore_zero c) (m (oLoc d)) ⊢ |={Set.univ}=> iprop(
      (bigSep Finset.univ fun i : Fin ((K (F := F)).nSub 0) => tilePart m d (Fin.cast nCore_zero c) (Fin.cast nSub_zero i) (m (oLoc d)))
      ∗ ((bigSep Finset.univ fun i : Fin ((K (F := F)).nSub 0) => tilePart m d (Fin.cast nCore_zero c) (Fin.cast nSub_zero i) (Gm m d))
          -∗ corePart m d (Fin.cast nCore_zero c) (Gm m d)))
  rw [bigSep_tasks (F := F) (fun i => tilePart m d (Fin.cast nCore_zero c) i (m (oLoc d))),
    bigSep_tasks (F := F) (fun i => tilePart m d (Fin.cast nCore_zero c) i (Gm m d))]
  unfold corePart
  iintro H; imodintro
  isplitl [H]; · iexact H
  iintro H; iexact H

/-! ## The ghost state at the launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

theorem ops_sub : ∀ op ∈ (ops : List (HloOp τ sig (Elt F))), op.bufs ⊆ Pipeline.ucRefs τ sig := by
  have h : (ops : List (HloOp τ sig (Elt F))).Forall fun op => op.bufs ⊆ tcRefs τ sig :=
    ⟨nullary_bufs_sub .., unary_bufs_sub .., unary_bufs_sub .., nullary_bufs_sub .., unary_bufs_sub .., binary_bufs_sub .., unary_bufs_sub ..,
      unary_bufs_sub .., binary_bufs_sub .., reshape_bufs_sub .., reshape_bufs_sub ..⟩
  exact fun op hop => Pipeline.sub_ucRefs op (List.forall_iff_forall_mem.mp h op hop)

theorem ops_fresh : ∀ op ∈ (ops : List (HloOp τ sig (Elt F))), op.fresh = ∅ := by
  intro _ h; (repeat (cases h with | head => rfl | tail _ h => ?_)); exact nomatch h

/-- The arrays the call and the claims speak of, out of all the device's. -/
theorem held_four (d : Dev nD) (V : Valuation τ sig (Elt F)) :
    (held (SparseCore.T d) (Pipeline.ucRefs τ sig) V : sProp 𝕄)
      ⊢ iprop((tLoc d ↦{fullShare} V (Proc.devRef .tc main_arg0)) ∗ (aLoc d ↦{fullShare} V (Proc.devRef .tc main_arg1))
          ∗ (iLoc d ↦{fullShare} V (Proc.devRef .tc main_v9)) ∗ (oLoc d ↦{fullShare} V (Proc.devRef .tc main_v10))) := by
  have mem : ∀ b : Ref sig .tc, b.isScoped = false → (Proc.devRef .tc b : DevRef τ sig) ∈ Pipeline.ucRefs τ sig := fun b hb =>
    Finset.mem_filter.mpr ⟨devRef_mem_tcRefs b, fun h => Bool.false_ne_true (hb.symm.trans h)⟩
  have ne : ∀ {b b' : Ref sig .tc}, b ≠ b' → (Proc.devRef .tc b : DevRef τ sig) ≠ Proc.devRef .tc b' := fun h e => h (Proc.devRef_injective _ e)
  unfold held
  rw [SparseCore.bigSep_erase' (mem main_arg0 rfl),
    SparseCore.bigSep_erase' (Finset.mem_erase.mpr ⟨ne (by decide), mem main_arg1 rfl⟩),
    SparseCore.bigSep_erase' (Finset.mem_erase.mpr ⟨ne (by decide), Finset.mem_erase.mpr ⟨ne (by decide), mem main_v9 rfl⟩⟩),
    SparseCore.bigSep_erase' (Finset.mem_erase.mpr ⟨ne (by decide), Finset.mem_erase.mpr ⟨ne (by decide), Finset.mem_erase.mpr ⟨ne (by decide), mem main_v10 rfl⟩⟩⟩)]
  iintro ⟨Ht, Ha, Hi, Ho, -⟩
  isplitl [Ht]; · iexact Ht
  isplitl [Ha]; · iexact Ha
  isplitl [Hi]; · iexact Hi
  iexact Ho

theorem cores (d : Dev nD) (f : Buf (Elt F) (oLoc d)) : (bigSep Finset.univ fun c : Fin 2 => corePart m d c f)
    = iprop((iLoc d ↦{fullShare} Im m d) ∗ (tLoc d ↦{fullShare} Tm m d) ∗ (oLoc d ↦{fullShare} f)) := by
  unfold corePart tilePart
  exact parts d (Tm m d) (Im m d) f

theorem st0_eq (d : Dev nD) : (bigSep Finset.univ fun c : Fin ((K (F := F)).nCore 0) => (P m).st 0 d c)
    = iprop((iLoc d ↦{fullShare} Im m d) ∗ (tLoc d ↦{fullShare} Tm m d) ∗ (oLoc d ↦{fullShare} m (oLoc d))) :=
  (bigSep_cores (F := F) (fun c => corePart m d c (m (oLoc d)))).trans (cores m d _)

theorem dn0_eq (d : Dev nD) : (bigSep Finset.univ fun c : Fin ((K (F := F)).nCore 0) => (P m).dn 0 d c)
    = iprop((iLoc d ↦{fullShare} Im m d) ∗ (tLoc d ↦{fullShare} Tm m d) ∗ (oLoc d ↦{fullShare} Gm m d)) :=
  (bigSep_cores (F := F) (fun c => corePart m d c (Gm m d))).trans (cores m d _)

/-- What the program leaves: its arguments as they were, the result gathered. -/
abbrev FIN (d : Dev nD) : sProp 𝕄 :=
  iprop((tLoc d ↦{fullShare} m (tLoc d)) ∗ (aLoc d ↦{fullShare} m (aLoc d)) ∗ oLoc d ↦{fullShare} Gm m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d) from
    Pipeline.unscopedBufs_held d (V0 m d), main_eq]
  iintro ⟨#Hctx, Hst, ⟨Hb, Hh, Hts, -⟩, -⟩
  iapply (wp_seq 𝒱 none Set.univ d (Pipeline.ucRefs τ sig) (fun _ => (sc (F := F)).run d 0) ops ops_sub ops_fresh (V0 m d)) $$ [Hb Hh]
  · isplitl [Hb]; · iexact Hb
    iexact Hh
  iintro ⟨Hb, Hh⟩
  ihave Hh' := (show held (SparseCore.T d) (Pipeline.ucRefs τ sig) (after ops (V0 m d)) ⊢ _ from held_four (F := F) d (V1 m d)) $$ Hh
  rw [V1_t, V1_a, V1_i, V1_o]
  icases Hh' with ⟨Ht, Ha, Hi, Ho⟩
  iapply ((K (F := F)).wp_run (D (F := F)) 𝒱 (EH := EH) (P := P m) κ d 0) $$ [Hst Ht Hi Ho Hb Hts Ha]
  isplitr; · iexact Hctx
  isplitl [Hst]; · iexact Hst
  isplitl [Ht Hi Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨-, Ht, Ho⟩
  isplitl [Hst]; · iexact Hst
  isplitr [Hb Hts]
  · isplitl [Ht]; · iexact Ht
    isplitl [Ha]; · iexact Ha
    iexact Ho
  isplitl [Hb] <;> iassumption

def fq (d : Dev nD) (s' : Phys nD τ sig (Elt F)) : Prop :=
  s'.mem.mem (tLoc d) = m (tLoc d) ∧ s'.mem.mem (aLoc d) = m (aLoc d) ∧ s'.mem.mem (oLoc d) = Gm m d

set_option maxRecDepth 16384 in
theorem hfin (d : Dev nD) (s' : Phys nD τ sig (Elt F)) : iprop(FIN m d ∗ SI s') ⊢ (⌜fq m d s'⌝ : sProp 𝕄) := by
  iintro ⟨⟨Ht, Ha, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := Gm m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ d : Dev nD, r.2.mem (tLoc d) = m (tLoc d) ∧ r.2.mem (aLoc d) = m (aLoc d) ∧ r.2.mem (oLoc d) = Gm m d) ∧ r.2.sem = fun _ => 0

/-- Every fair execution ends, its arguments unchanged, every row of its result the row of the table its index names, and
    every semaphore back at zero. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.Kernel.Run
-- ==== Proof.Values.lean ====
module

public import proofs.«01_k».proof.Proof.Launch
public import proofs.«01_k».proof.Proof.Gen.Reference.Run
public import Idealize.ShloMosaic.Lib.Pipeline.Value
public import Idealize.ShloMosaic.Lib.ValueIdxCore

@[expose] public section

/-! # The gather's values

The row the host makes names, at result row `(i · 4 + p) · 128 + l`, row `4 · eidx[i, l] + p` of the table; the
reference's rows of four times the width, taken at `eidx` and laid out again, are the same. -/

noncomputable section

namespace Cert.Kernel.Run

open Idealize.ShloMosaic Idealize.ShloMosaic.ValueIdx

variable {F : FTy → Type} [FloatOps F]

abbrev Words (s : Shape) := s.Idx → BitVec 32

section Index

variable (A : Words S32768x128) (r : Fin 16777216)

/-- Result row `r`'s token, part and lane. -/
def tokOf : Fin 32768 := ⟨r.val / 512, by omega⟩
def partOf : Fin 4 := ⟨r.val / 128 % 4, by omega⟩
def laneOf : Fin 128 := ⟨r.val % 128, by omega⟩

open Cert.Kernel.Gen in
theorem idxOf_apply : idxOf (F := F) A (idxAt r) = A (ix2 (tokOf r) (laneOf r)) * 4#32 + BitVec.ofNat 32 (partOf r).val := by
  unfold idxOf
  rw [shapeCast_apply _ _ _ (ix1 r) (by
      rw [show (S1x16777216.rowMajor (idxAt r)).val = _ from Shape.rowMajor_val_two (d := ![1, 16777216]) _,
        show (S16777216.rowMajor (ix1 r)).val = _ from Shape.rowMajor_val_one (d := ![16777216]) _]
      show r.val = 0 * 16777216 + r.val; omega),
    shapeCast_apply _ _ _ (ix3 (tokOf r) (partOf r) (laneOf r)) (by
      rw [show (S32768x4x128.rowMajor (ix3 (tokOf r) (partOf r) (laneOf r))).val = _ from Shape.rowMajor_val_three (d := ![32768, 4, 128]) _,
        show (S16777216.rowMajor (ix1 r)).val = _ from Shape.rowMajor_val_one (d := ![16777216]) _]
      show (r.val / 512 * 4 + r.val / 128 % 4) * 128 + r.val % 128 = r.val; omega)]
  refine congrArg₂ (fun a b : BitVec 32 => a + b) ?_ ?_
  · refine (broadcastInDim_apply _ _ _ _ (ix3 (tokOf r) 0 (laneOf r)) (fun a => by match a with | 0 => rfl | 1 => rfl | 2 => rfl)).trans ?_
    refine congrArg₂ (fun a b : BitVec 32 => a * b) ?_ rfl
    exact broadcastInDim_apply _ _ A _ (ix2 (tokOf r) (laneOf r)) (fun a => by match a with | 0 => rfl | 1 => rfl)
  · refine (broadcastInDim_apply _ _ _ _ (ix3 0 (partOf r) 0) (fun a => by match a with | 0 => rfl | 1 => rfl | 2 => rfl)).trans ?_
    exact broadcastInDim_apply _ _ _ _ (ix1 (partOf r)) (fun a => by match a with | 0 => rfl)

theorem idxOf_toNat (hA : ∀ j, (A j).toNat < 16384) :
    (idxOf (F := F) A (idxAt r)).toNat = (A (ix2 (tokOf r) (laneOf r))).toNat * 4 + (partOf r).val := by
  have h := hA (ix2 (tokOf r) (laneOf r))
  have hp := (partOf r).isLt
  rw [idxOf_apply, BitVec.toNat_add, BitVec.toNat_mul, BitVec.toNat_ofNat, BitVec.toNat_ofNat]
  omega

theorem idxOf_lt (hA : ∀ j, (A j).toNat < 16384) (j : S1x16777216.Idx) : (idxOf (F := F) A j).toNat < 65536 := by
  obtain ⟨r, rfl⟩ : ∃ r : Fin 16777216, j = idxAt r := ⟨j 1, funext fun a => match a with
    | 0 => Fin.ext (by have := (j 0).isLt; show (j 0).val = 0; change (j 0).val < 1 at this; omega)
    | 1 => rfl⟩
  rw [idxOf_toNat A _ hA]
  have h := hA (ix2 (tokOf r) (laneOf r))
  have hp := (partOf r).isLt
  omega

end Index

section Reference

open Cert.Reference Cert.Reference.Gen

/-- The reference's result as a function of its arguments. -/
def refOf (T : Words S65536x128) (A : Words S32768x128) : Words S16777216x128 :=
  shapeCast _ (transpose S32768x4x128x128 [0, 2, 1, 3] (shapeCast _ (Host.gather gather_S16384x512_S32768x128x1_S32768x128x512_2_0_n_n_0_2_1512
    (shapeCast _ T shapeCasts_S65536x128_S16384x512)
    (broadcastInDim S32768x128x1 ![0, 1] bcast_S32768x128_S32768x128x1_0_1
      (select (cmpi .slt A (broadcastInDim S32768x128 ![] bcast_S_S32768x128 (constantI S_ 32 0#32)))
        (addi A (broadcastInDim S32768x128 ![] bcast_S_S32768x128 (constantI S_ 32 16384#32))) A)))
    shapeCasts_S32768x128x512_S32768x128x4x128) transposes_S32768x128x4x128_S32768x4x128x128_0_2_1_3)
    shapeCasts_S32768x4x128x128_S16777216x128

/-- The reference's gather at `(i, l, k)`: entry `k` of the row its start index names, clamped to the table. -/
theorem gather_apply (x : Words S16384x512) (idx : Words S32768x128x1) (i : Fin 32768) (l : Fin 128) (k : Fin 512)
    (v : BitVec 32) (hv : idx (ix3 i l 0) = v) :
    Host.gather gather_S16384x512_S32768x128x1_S32768x128x512_2_0_n_n_0_2_1512 x idx (ix3 i l k)
      = x (ix2 ⟨min v.toInt.toNat 16383, by omega⟩ k) := by
  subst hv
  unfold Host.gather
  congr 1
  funext a
  refine Fin.ext ?_
  set D := gather_S16384x512_S32768x128x1_S32768x128x512_2_0_n_n_0_2_1512 with hD
  show D.start (ix3 i l k) idx a + D.batchCoord (ix3 i l k) a + D.offCoord (ix3 i l k) a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 2) ∈ D.startIndexMap from List.mem_singleton.mpr rfl)]
    have hsi : D.siIdx (ix3 i l k) ⟨List.idxOf (0 : Fin 2) D.startIndexMap, List.idxOf_lt_length_iff.2 (List.mem_singleton.mpr rfl)⟩ = ix3 i l 0 := by
      funext b; refine Fin.ext ?_
      match b with
      | ⟨0, _⟩ => rfl
      | ⟨1, _⟩ => rfl
      | ⟨2, _⟩ => rfl
    rw [hsi]
    rfl
  | 1 =>
    unfold GatherDims.start
    rw [dif_neg (show ¬ (1 : Fin 2) ∈ D.startIndexMap from by rw [hD]; decide), Nat.zero_add]
    rfl

theorem refOf_apply (T : Words S65536x128) (A : Words S32768x128) (hA : ∀ j, (A j).toNat < 16384) (r : Fin 16777216) (c : Fin 128) :
    refOf T A (ix2 r c) = T (ix2 ⟨(A (ix2 (tokOf r) (laneOf r))).toNat * 4 + (partOf r).val, by
      have := hA (ix2 (tokOf r) (laneOf r)); have := (partOf r).isLt; omega⟩ c) := by
  have hc := c.isLt
  have hx := hA (ix2 (tokOf r) (laneOf r))
  have hk : (partOf r).val * 128 + c.val < 512 := by have := (partOf r).isLt; omega
  have hsel : (select (cmpi .slt A (broadcastInDim S32768x128 ![] bcast_S_S32768x128 (constantI S_ 32 0#32)))
      (addi A (broadcastInDim S32768x128 ![] bcast_S_S32768x128 (constantI S_ 32 16384#32))) A : Words S32768x128) (ix2 (tokOf r) (laneOf r))
      = A (ix2 (tokOf r) (laneOf r)) := by
    show Scalar.select (IntOp.cmpi .slt (A (ix2 (tokOf r) (laneOf r))) 0#32) _ _ = _
    have hf : IntOp.cmpi .slt (A (ix2 (tokOf r) (laneOf r))) 0#32 = 0#1 := by
      simp only [IntOp.cmpi, BitVec.slt_eq_decide, BitVec.toInt_eq_toNat_cond, BitVec.toNat_ofNat]
      rw [decide_eq_false (by omega)]; rfl
    rw [hf]; rfl
  unfold refOf
  rw [shapeCast_apply _ _ _ (ix4 (tokOf r) (partOf r) (laneOf r) c) (by
      rw [show (S32768x4x128x128.rowMajor (ix4 (tokOf r) (partOf r) (laneOf r) c)).val = _ from Shape.rowMajor_val_four (d := ![32768, 4, 128, 128]) _,
        show (S16777216x128.rowMajor (ix2 r c)).val = _ from Shape.rowMajor_val_two (d := ![16777216, 128]) _]
      show ((r.val / 512 * 4 + r.val / 128 % 4) * 128 + r.val % 128) * 128 + c.val = r.val * 128 + c.val; omega),
    transpose_apply _ _ _ _ (ix4 (tokOf r) (laneOf r) (partOf r) c) (fun b => by match b with | 0 => rfl | 1 => rfl | 2 => rfl | 3 => rfl),
    shapeCast_apply _ _ _ (ix3 (tokOf r) (laneOf r) (⟨(partOf r).val * 128 + c.val, hk⟩ : Fin 512)) (by
      rw [show (S32768x128x512.rowMajor (ix3 (tokOf r) (laneOf r) (⟨(partOf r).val * 128 + c.val, hk⟩ : Fin 512))).val = _ from Shape.rowMajor_val_three (d := ![32768, 128, 512]) _,
        show (S32768x128x4x128.rowMajor (ix4 (tokOf r) (laneOf r) (partOf r) c)).val = _ from Shape.rowMajor_val_four (d := ![32768, 128, 4, 128]) _]
      show ((tokOf r).val * 128 + (laneOf r).val) * 512 + ((partOf r).val * 128 + c.val) = (((tokOf r).val * 128 + (laneOf r).val) * 4 + (partOf r).val) * 128 + c.val; omega),
    gather_apply _ _ _ _ _ _ ((broadcastInDim_apply _ _ _ _ (ix2 (tokOf r) (laneOf r)) (fun a => by match a with | 0 => rfl | 1 => rfl)).trans hsel),
    shapeCast_apply _ _ _ (ix2 (⟨(A (ix2 (tokOf r) (laneOf r))).toNat * 4 + (partOf r).val, by have := (partOf r).isLt; omega⟩ : Fin 65536) c) (by
      have e : (A (ix2 (tokOf r) (laneOf r))).toInt.toNat = (A (ix2 (tokOf r) (laneOf r))).toNat := by
        rw [BitVec.toInt_eq_toNat_cond]; omega
      rw [show (S65536x128.rowMajor (ix2 (⟨(A (ix2 (tokOf r) (laneOf r))).toNat * 4 + (partOf r).val, by have := (partOf r).isLt; omega⟩ : Fin 65536) c)).val = _ from Shape.rowMajor_val_two (d := ![65536, 128]) _,
        show (S16384x512.rowMajor _).val = _ from Shape.rowMajor_val_two (d := ![16384, 512]) _]
      show ((A (ix2 (tokOf r) (laneOf r))).toNat * 4 + (partOf r).val) * 128 + c.val
        = min (A (ix2 (tokOf r) (laneOf r))).toInt.toNat 16383 * 512 + ((partOf r).val * 128 + c.val)
      rw [e]; omega)]

end Reference

/-- The gathered rows are the reference's. -/
theorem G_eq (d : Dev nD) (T : Words S65536x128) (A : Words S32768x128) (hA : ∀ j, (A j).toNat < 16384) :
    G (F := F) d T (idxOf (F := F) A) = refOf T A := by
  funext j
  obtain ⟨r, c, rfl⟩ : ∃ (r : Fin 16777216) (c : Fin 128), j = ix2 r c := ⟨j 0, j 1, eq_ix2 (n0 := 16777216) (n1 := 128) j⟩
  rw [refOf_apply T A hA]
  unfold G rowOf
  show T _ = T _
  congr 1
  funext a
  match a with
  | 0 =>
    refine Fin.ext ?_
    show (idxOf (F := F) A (idxAt r)).toNat % 65536 = _
    rw [Nat.mod_eq_of_lt (idxOf_lt A hA _), idxOf_toNat A _ hA]
  | 1 => rfl

end Cert.Kernel.Run
-- ==== Proof.Gather.lean ====
module

public import proofs.«01_k».proof.Defs
public import proofs.«01_k».proof.Proof.Values
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.ReferenceIdeal.Run
public import proofs.«01_k».proof.Proof.Gen.Pre_eidx_in_table

@[expose] public section

/-! # The gather's claims -/

set_option maxRecDepth 16384

noncomputable section

namespace Cert.Proof

open Idealize.ShloMosaic Idealize.SL.Sem
open Cert.Kernel (nD τ sig S65536x128 S32768x128)
open Cert.Kernel.Run (tLoc aLoc oLoc PreOK G Im Gm refOf Words)

instance : Cert.Kernel.Facts := Cert.Kernel.Gen.facts
instance : Cert.KernelIdeal.Facts := Cert.KernelIdeal.Gen.facts
instance : Cert.Reference.Facts := Cert.Reference.Gen.facts
instance : Cert.ReferenceIdeal.Facts := Cert.ReferenceIdeal.Gen.facts
instance : Cert.Pre_eidx_in_table.Facts := Cert.Pre_eidx_in_table.Gen.facts

variable {F : FTy → Type} [FloatOps F]

/-- The precondition, read off the words: each index is below the table's 16384 rows. -/
theorem lt_of_pre (T : Words S65536x128) (A : Words S32768x128) (h : Cert.Pre_eidx_in_table.fn (F := F) T A = fun _ => 1#1) (j : S32768x128.Idx) :
    (A j).toNat < 16384 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h j
  simp only [Cert.Pre_eidx_in_table.fn, andi, cmpi, broadcastInDim, constantI] at e
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The program's run, its result by the reference's formula. -/
theorem run_gather [∀ e, Nonempty (Elt F e)] (m : (ℓ : Loc nD τ sig) → Buf (Elt F) ℓ) (ρ : Dev nD → PrngReg)
    (hA : ∀ (d : Dev nD) j, (m (aLoc d) j : BitVec 32).toNat < 16384) :
    θ_run (Cert.Kernel.defs (F := F)) (Cert.Kernel.threads (F := F)) ⟨m, fun _ => 0, ρ⟩ fun r =>
      (∀ d : Dev nD, r.2.mem (oLoc d) = refOf (m (tLoc d)) (m (aLoc d)) ∧ r.2.mem (tLoc d) = m (tLoc d) ∧ r.2.mem (aLoc d) = m (aLoc d))
        ∧ r.2.sem = fun _ => 0 :=
  (θ_run Cert.Kernel.defs _ _).mono
    (fun _ h => ⟨fun d => ⟨(h.1 d).2.2.trans (by
      rw [show Gm m d = G d (m (tLoc d)) (Im m d) by unfold Gm; rfl]
      exact Cert.Kernel.Run.G_eq d (m (tLoc d)) (m (aLoc d)) (hA d)), (h.1 d).1, (h.1 d).2.1⟩, h.2⟩)
    (Cert.Kernel.Run.run_main (F := F) m ρ fun d j => Cert.Kernel.Run.idxOf_lt (m (aLoc d)) (hA d) j)

theorem frame_kernel : Cert.quiescent_Kernel := fun m ρ h =>
  (θ_run Cert.Kernel.defs _ _).mono (fun _ h => ⟨fun c => (h.1 c).2, h.2⟩) (run_gather m ρ fun d => lt_of_pre (F := Bits) _ _ (h d))

theorem frame_kernelIdeal : Cert.quiescent_KernelIdeal := fun m ρ h =>
  (θ_run Cert.Kernel.defs _ _).mono (fun _ h => ⟨fun c => (h.1 c).2, h.2⟩) (run_gather (F := Ideal) m ρ fun d => lt_of_pre (F := Ideal) _ _ (h d))

theorem frame_reference : Cert.quiescent_Reference := fun m ρ _ =>
  (θ_run Cert.Reference.defs _ _).mono (fun r h => ⟨fun c => (h c).2, sem_eq_zero_of_no_sems (by decide) r.2⟩) (Cert.Reference.Value.run (F := Bits) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem bitexact : Cert.bitexact_Kernel_Reference := fun m ρ m' ρ' hpre hagree =>
  ⟨fun c => refOf (m (tLoc c)) (m (aLoc c)),
    (θ_run Cert.Kernel.defs _ _).mono (fun _ h c => h.1 c) (run_gather m ρ fun d => lt_of_pre (F := Bits) _ _ (hpre d)),
    (θ_run Cert.Reference.defs _ _).mono (fun _ h c => ⟨(h c).1.trans (by rw [(hagree c).1, (hagree c).2]; rfl), (h c).2⟩) (Cert.Reference.Value.run (F := Bits) m' ρ')⟩

theorem algebraic : Cert.algebraic_KernelIdeal_ReferenceIdeal := fun m ρ m' ρ' hpre hagree =>
  ⟨fun c => refOf (m (tLoc c)) (m (aLoc c)),
    (θ_run Cert.Kernel.defs _ _).mono (fun _ h c => h.1 c) (run_gather (F := Ideal) m ρ fun d => lt_of_pre (F := Ideal) _ _ (hpre d)),
    (θ_run Cert.ReferenceIdeal.defs _ _).mono (fun _ h c => ⟨(h c).1.trans (by rw [(hagree c).1, (hagree c).2]; rfl), (h c).2⟩) (Cert.ReferenceIdeal.Value.run (F := Ideal) m' ρ')⟩

end Cert.Proof

end
-- ==== Proof.FinalNorm.lean ====
module

public import proofs.«01_k».proof.Defs
public import proofs.«01_k».proof.Proof.Gen.FinalNorm.Frame
public import proofs.«01_k».proof.Proof.Gen.FinalNormIdeal.Value
public import proofs.«01_k».proof.Proof.Gen.FinalNormRefIdeal.Run
public import Idealize.ShloMosaic.Lib.Claim
public import Idealize.ShloMosaic.Lib.Pointwise
public import Idealize.ShloMosaic.Lib.Pipeline.ValueKit

@[expose] public section

/-! # The final norm: every row of the last layer's output scaled by the reciprocal root of its mean square -/

set_option maxRecDepth 16384

noncomputable section

open Idealize.ShloMosaic Idealize.ShloMosaic.TcCoe Idealize.SL.Sem
open Idealize.ShloMosaic.Pipeline (Dat)

namespace Cert.FinalNormIdeal.Value

open Cert.FinalNormIdeal Cert.FinalNormIdeal.Gen

variable (m : (ℓ : Loc nD τ sig) → Buf (Elt Ideal) ℓ)

/-- Where each window's block lies at every grid point. -/
theorem idx : ∀ t : Fin cfg0.N, win0_0.index t = ![t.val, 0] ∧ win0_1.index t = ![0, 0] ∧ win0_2.index t = ![t.val, 0] :=
  (by decide +kernel : ∀ t : Fin grid0.N, _)

/-- Every row scaled by the reciprocal root of its mean square, then channel by channel by `G`. -/
def NORMED (X : FVec Ideal S32768x1024 .f32) (G : FVec Ideal S1x1024 .f32) : FVec Ideal S32768x1024 .f32 := fun i =>
  X (ix2 (i 0) (i 1))
    * Ideal.rsqrt (Ideal.div (∑ j : Fin 1024, X (ix2 (i 0) j) * X (ix2 (i 0) j)) (Ideal.ofBits .f32 0x44800000#32)
        + Ideal.ofBits .f32 0x358637BD#32)
    * G (ix2 0 (i 1))

theorem point (c : Dev nD) (t : Fin cfg0.N) (y) : k0_pay1 (F := Ideal) (iblk m c 0 t) (iblk m c 1 t) y
    = NORMED (V m c main_v0) (V m c main_v1) (((cfg0.win 2).blk t).view.emb y) := by
  pointwise [k0_pay1, NORMED]
  blk_point [iblk, idx t]

theorem final (c : Dev nD) : (dats m 0 c).arrAt 2 (cfgs 0).N = NORMED (V m c main_v0) (V m c main_v1) := by
  refine (dats m 0 c).arrAt_eq_of_covers 2 _ (by decide +kernel) fun t _ y => ?_
  blk_simp
  rw [after0_2]; frame_out
  exact point m c t y

/-- The region finds the rows of `x` laid one under the other, -/
theorem rows_at (c : Dev nD) (r : Fin 32768) (k : Fin 1024) : V m c main_v0 (ix2 r k)
    = m ((c : Thread nD τ).loc main_arg0) (ix3 ⟨r.val / 2048, by omega⟩ ⟨r.val % 2048, by omega⟩ k) := by
  entry_read
  pointwise

/-- and the norm's weights as one row. -/
theorem gain_at (c : Dev nD) (k : Fin 1024) : V m c main_v1 (ix2 0 k) = m ((c : Thread nD τ).loc main_arg1) (ix1 k) := by
  entry_read
  pointwise

end Cert.FinalNormIdeal.Value

namespace Cert.Proof

theorem frame_finalNorm : Cert.quiescent_FinalNorm := fun m ρ _ => Cert.FinalNorm.Gen.frame m ρ

theorem frame_finalNormIdeal : Cert.quiescent_FinalNormIdeal := fun m ρ _ => Cert.FinalNormIdeal.Gen.frame m ρ

theorem frame_finalNormRefIdeal : Cert.quiescent_FinalNormRefIdeal := fun m ρ _ =>
  (θ_run Cert.FinalNormRefIdeal.defs _ _).mono (fun r h => ⟨fun c => (h c).2, sem_eq_zero_of_no_sems (by decide) r.2⟩)
    (Cert.FinalNormRefIdeal.Value.run (F := Ideal) m ρ)

/-- The rows of a batch of sequences, laid one under the other. -/
theorem stacked (Y : FVec Ideal Cert.FinalNormRefIdeal.S16x2048x1024 .f32) (r : Fin 32768) (k : Fin 1024) :
    shapeCast Cert.FinalNormRefIdeal.S32768x1024 Y Cert.FinalNormRefIdeal.Gen.shapeCasts_S16x2048x1024_S32768x1024 (ix2 r k)
    = Y (ix3 ⟨r.val / 2048, by omega⟩ ⟨r.val % 2048, by omega⟩ k) := by
  pointwise

theorem algebraic_finalNorm : Cert.algebraic_FinalNormIdeal_FinalNormRefIdeal := by
  pair_intro
  · run_from Cert.FinalNormIdeal.Value.run_blocks m g
  · run_from Cert.FinalNormRefIdeal.Value.run m' g'
    symm
    refine (Cert.FinalNormIdeal.Value.final m c).trans ?_
    funext j
    idx_vars j
    have hx := Cert.FinalNormIdeal.Value.rows_at m c j0
    have hg := Cert.FinalNormIdeal.Value.gain_at m c
    generalize Cert.FinalNormIdeal.Gen.V m c Cert.FinalNormIdeal.main_v0 = X at hx ⊢
    generalize Cert.FinalNormIdeal.Gen.V m c Cert.FinalNormIdeal.main_v1 = G at hg ⊢
    rw [stacked _ j0 j1]
    generalize (⟨j0.val / 2048, _⟩ : Fin 16) = b at hx ⊢
    generalize (⟨j0.val % 2048, _⟩ : Fin 2048) = r at hx ⊢
    pointwise [Cert.FinalNormIdeal.Value.NORMED]
    simp only [hx, hg]

end Cert.Proof

end
-- ==== Proof.Merge.lean ====
module

public import proofs.«01_k».proof.Defs
public import proofs.«01_k».proof.Proof.Gen.Merge.Frame
public import proofs.«01_k».proof.Proof.Gen.MergeIdeal.Value
public import proofs.«01_k».proof.Proof.Gen.MergeRefIdeal.Run
public import Idealize.ShloMosaic.Lib.Claim
public import Idealize.ShloMosaic.Lib.Pointwise
public import Idealize.ShloMosaic.Lib.StableHlo.RunRead
public import Idealize.ShloMosaic.Lib.Pipeline.ValueKit

@[expose] public section

/-! # The merge: the three mixers' results, each under its gate, projected, summed, projected again, added to the layer's input -/

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

/-- Where each window's block lies at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 1] ∧ win0_6.index t = ![t.val, 2]
    ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

/-- The logistic function, as the call computes it. -/
def gate (x : EReal) : EReal := Ideal.div 1 (1 + Ideal.exp (0 - x))

/-- The rows of `X` plus the projection by `O` of the three results, each projected by its own weights, under its own thousand
    of the gates `P`. -/
def MERGED (X : FVec Ideal S32768x1024 .f32) (A B C : FVec Ideal S32768x512 .f32) (P : FVec Ideal S32768x8064 .f32)
    (WA WB WC : FVec Ideal S512x1024 .bf16) (O : FVec Ideal S1024x1024 .bf16) : FVec Ideal S32768x1024 .f32 := fun i =>
  X (ix2 (i 0) (i 1)) + ∑ k : Fin 1024,
    (gate (P (ix2 (i 0) ⟨k.val, by omega⟩)) * ∑ j : Fin 512, A (ix2 (i 0) j) * WA (ix2 j k)
      + gate (P (ix2 (i 0) ⟨1024 + k.val, by omega⟩)) * ∑ j : Fin 512, B (ix2 (i 0) j) * WB (ix2 j k)
      + gate (P (ix2 (i 0) ⟨2048 + k.val, by omega⟩)) * ∑ j : Fin 512, C (ix2 (i 0) j) * WC (ix2 j k))
    * O (ix2 k (i 1))

/-- The block of gates a point reads: its rows, from column `o` on. -/
def gateBlock (P : FVec Ideal S32768x8064 .f32) (t : Fin cfg0.N) (o : Nat) (ho : o + 1024 ≤ 8064) : FVec Ideal S512x1024 .f32 :=
  fun y => P (ix2 ⟨t.val * 512 + (y 0).val, by have := t.isLt; have : cfg0.N = 64 := rfl; have : (y 0).val < 512 := (y 0).isLt; omega⟩
    ⟨o + (y 1).val, by have : (y 1).val < 1024 := (y 1).isLt; omega⟩)

theorem gates4 (c : Dev nD) (t : Fin cfg0.N) : X0_4 m c t = gateBlock (V m c main_v17) t 0 (by omega) := by
  funext y
  idx_vars y
  unfold X0_4 Pipeline.Window.fill gateBlock
  rw [dif_pos (moved0_4 t _)]
  blk_point [iblk, idx t]

theorem gates5 (c : Dev nD) (t : Fin cfg0.N) : X0_5 m c t = gateBlock (V m c main_v17) t 1024 (by omega) := by
  funext y
  idx_vars y
  unfold X0_5 Pipeline.Window.fill gateBlock
  rw [dif_pos (moved0_5 t _)]
  blk_point [iblk, idx t]

theorem gates6 (c : Dev nD) (t : Fin cfg0.N) : X0_6 m c t = gateBlock (V m c main_v17) t 2048 (by omega) := by
  funext y
  idx_vars y
  unfold X0_6 Pipeline.Window.fill gateBlock
  rw [dif_pos (moved0_6 t _)]
  blk_point [iblk, idx t]

theorem point (c : Dev nD) (t : Fin cfg0.N) (y) : outsAt0 (F := Ideal) m c t y
    = MERGED (V m c main_v0) (V m c main_v1) (V m c main_v2) (V m c main_v3) (V m c main_v17)
        (V m c main_v18) (V m c main_v19) (V m c main_v20) (V m c main_v21) (((cfg0.win 11).blk t).view.emb y) := by
  unfold outsAt0
  frame_out
  rw [gates4, gates5, gates6]
  pointwise [k0_pay1, k0_pay2, k0_pay3, k0_pay4, MERGED, gate, gateBlock]
  blk_point [iblk, idx t]

theorem final (c : Dev nD) : (dats m 0 c).arrAt 11 (cfgs 0).N
    = MERGED (V m c main_v0) (V m c main_v1) (V m c main_v2) (V m c main_v3) (V m c main_v17)
        (V m c main_v18) (V m c main_v19) (V m c main_v20) (V m c main_v21) := by
  refine (dats m 0 c).arrAt_eq_of_covers 11 _ (by decide +kernel) fun t _ y => ?_
  blk_simp
  rw [after0_11]
  exact point m c t y

/-- The region finds the rows of `x` laid one under the other, -/
theorem rows_at (c : Dev nD) (r : Fin 32768) (k : Fin 1024) : V m c main_v0 (ix2 r k)
    = m ((c : Thread nD τ).loc main_arg0) (ix3 ⟨r.val / 2048, by omega⟩ ⟨r.val % 2048, by omega⟩ k) := by
  simp only [V, List.flatten_cons, List.flatten_nil, List.append_nil, hostOps0]
  after_reads_simp
  pointwise

/-- so too those of the first result, -/
theorem sb_at (c : Dev nD) (r : Fin 32768) (k : Fin 512) : V m c main_v1 (ix2 r k)
    = m ((c : Thread nD τ).loc main_arg1) (ix3 ⟨r.val / 2048, by omega⟩ ⟨r.val % 2048, by omega⟩ k) := by
  simp only [V, List.flatten_cons, List.flatten_nil, List.append_nil, hostOps0]
  after_reads_simp
  pointwise

/-- of the second, -/
theorem nsa_at (c : Dev nD) (r : Fin 32768) (k : Fin 512) : V m c main_v2 (ix2 r k)
    = m ((c : Thread nD τ).loc main_arg2) (ix3 ⟨r.val / 2048, by omega⟩ ⟨r.val % 2048, by omega⟩ k) := by
  simp only [V, List.flatten_cons, List.flatten_nil, List.append_nil, hostOps0]
  after_reads_simp
  pointwise

/-- and of the third, -/
theorem hg_at (c : Dev nD) (r : Fin 32768) (k : Fin 512) : V m c main_v3 (ix2 r k)
    = m ((c : Thread nD τ).loc main_arg3) (ix3 ⟨r.val / 2048, by omega⟩ ⟨r.val % 2048, by omega⟩ k) := by
  simp only [V, List.flatten_cons, List.flatten_nil, List.append_nil, hostOps0]
  after_reads_simp
  pointwise

/-- the weights of the first projection, -/
theorem sb_weights_at (c : Dev nD) (k : Fin 512) (q : Fin 1024) : V m c main_v18 (ix2 k q)
    = m ((c : Thread nD τ).loc main_arg5) (ix2 k q) := by
  simp only [V, List.flatten_cons, List.flatten_nil, List.append_nil, hostOps0]
  after_reads_simp
  pointwise

/-- of the second -/
theorem nsa_weights_at (c : Dev nD) (k : Fin 512) (q : Fin 1024) : V m c main_v19 (ix2 k q)
    = m ((c : Thread nD τ).loc main_arg6) (ix2 k q) := by
  simp only [V, List.flatten_cons, List.flatten_nil, List.append_nil, hostOps0]
  after_reads_simp
  pointwise

/-- and of the third, -/
theorem hg_weights_at (c : Dev nD) (k : Fin 512) (q : Fin 1024) : V m c main_v20 (ix2 k q)
    = m ((c : Thread nD τ).loc main_arg7) (ix2 k q) := by
  simp only [V, List.flatten_cons, List.flatten_nil, List.append_nil, hostOps0]
  after_reads_simp
  pointwise

/-- the weights of the last projection, -/
theorem out_weights_at (c : Dev nD) (k : Fin 1024) (q : Fin 1024) : V m c main_v21 (ix2 k q)
    = m ((c : Thread nD τ).loc main_arg8) (ix2 k q) := by
  simp only [V, List.flatten_cons, List.flatten_nil, List.append_nil, hostOps0]
  after_reads_simp
  pointwise

/-- Of twelve arrays laid side by side the first columns are the first array's. -/
theorem first_piece (a0 : FVec Ideal S32768x3072 .f32) (a1 a2 a3 a4 a5 a6 a7 a8 : FVec Ideal S32768x512 .f32)
    (a9 : FVec Ideal S32768x768 .f32) (a10 : FVec Ideal S32768x24 .f32) (a11 : FVec Ideal S32768x104 .f32)
    (r : Fin 32768) (q : Fin 8064) (h : q.val < 3072) :
    concatenate S32768x8064 1 [⟨S32768x3072, a0⟩, ⟨S32768x512, a1⟩, ⟨S32768x512, a2⟩, ⟨S32768x512, a3⟩, ⟨S32768x512, a4⟩, ⟨S32768x512, a5⟩, ⟨S32768x512, a6⟩, ⟨S32768x512, a7⟩, ⟨S32768x512, a8⟩, ⟨S32768x768, a9⟩, ⟨S32768x24, a10⟩, ⟨S32768x104, a11⟩]
      concatenates_S32768x3072_S32768x512_S32768x512_S32768x512_S32768x512_S32768x512_S32768x512_S32768x512_S32768x512_S32768x768_S32768x24_S32768x104_S32768x8064_d1 (ix2 r q) = a0 (ix2 r ⟨q.val, h⟩) := by
  pointwise
  rw [dif_pos h]

/-- and the gates, which the call's order of the columns puts first. -/
theorem gates_at (c : Dev nD) (r : Fin 32768) (b : Fin 16) (s : Fin 2048) (hb : b.val = r.val / 2048) (hs : s.val = r.val % 2048)
    (q : Fin 8064) (h : q.val < 3072) : V m c main_v17 (ix2 r q)
    = m ((c : Thread nD τ).loc main_arg4) (ix3 b s ⟨4888 + q.val, by omega⟩) := by
  obtain rfl : b = ⟨r.val / 2048, by clear hb hs; omega⟩ := Fin.ext hb
  obtain rfl : s = ⟨r.val % 2048, by clear hs; omega⟩ := Fin.ext hs
  simp only [V, List.flatten_cons, List.flatten_nil, List.append_nil, hostOps0]
  after_results
  refine (first_piece _ _ _ _ _ _ _ _ _ _ _ _ r q h).trans ?_
  dsimp only [Matrix.cons_val]
  after_results_simp
  pointwise

end Cert.MergeIdeal.Value

namespace Cert.Proof

theorem frame_merge : Cert.quiescent_Merge := fun m ρ _ => Cert.Merge.Gen.frame m ρ

theorem frame_mergeIdeal : Cert.quiescent_MergeIdeal := fun m ρ _ => Cert.MergeIdeal.Gen.frame m ρ

theorem frame_mergeRefIdeal : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The merged rows of a batch of sequences, laid one under the other. -/
theorem stacked_merge (Y : FVec Ideal Cert.MergeRefIdeal.S16x2048x1024 .f32) (r : Fin 32768) (k : Fin 1024) :
    shapeCast Cert.MergeRefIdeal.S32768x1024 Y Cert.MergeRefIdeal.Gen.shapeCasts_S16x2048x1024_S32768x1024 (ix2 r k)
    = Y (ix3 ⟨r.val / 2048, by omega⟩ ⟨r.val % 2048, by omega⟩ k) := by
  pointwise

theorem algebraic_merge : Cert.algebraic_MergeIdeal_MergeRefIdeal := by
  pair_intro
  · run_from Cert.MergeIdeal.Value.run_blocks m g
  · run_from Cert.MergeRefIdeal.Value.run m' g'
    symm
    refine (Cert.MergeIdeal.Value.final m c).trans ?_
    funext j
    idx_vars j
    have h0 := Cert.MergeIdeal.Value.rows_at m c j0
    have h1 := Cert.MergeIdeal.Value.sb_at m c j0
    have h2 := Cert.MergeIdeal.Value.nsa_at m c j0
    have h3 := Cert.MergeIdeal.Value.hg_at m c j0
    have h4 := Cert.MergeIdeal.Value.gates_at m c j0 ⟨j0.val / 2048, by omega⟩ ⟨j0.val % 2048, by omega⟩ rfl rfl
    have h5 := Cert.MergeIdeal.Value.sb_weights_at m c
    have h6 := Cert.MergeIdeal.Value.nsa_weights_at m c
    have h7 := Cert.MergeIdeal.Value.hg_weights_at m c
    have h8 := Cert.MergeIdeal.Value.out_weights_at m c
    generalize Cert.MergeIdeal.Gen.V m c Cert.MergeIdeal.main_v0 = X0 at h0 ⊢
    generalize Cert.MergeIdeal.Gen.V m c Cert.MergeIdeal.main_v1 = X1 at h1 ⊢
    generalize Cert.MergeIdeal.Gen.V m c Cert.MergeIdeal.main_v2 = X2 at h2 ⊢
    generalize Cert.MergeIdeal.Gen.V m c Cert.MergeIdeal.main_v3 = X3 at h3 ⊢
    generalize Cert.MergeIdeal.Gen.V m c Cert.MergeIdeal.main_v17 = X4 at h4 ⊢
    generalize Cert.MergeIdeal.Gen.V m c Cert.MergeIdeal.main_v18 = X5 at h5 ⊢
    generalize Cert.MergeIdeal.Gen.V m c Cert.MergeIdeal.main_v19 = X6 at h6 ⊢
    generalize Cert.MergeIdeal.Gen.V m c Cert.MergeIdeal.main_v20 = X7 at h7 ⊢
    generalize Cert.MergeIdeal.Gen.V m c Cert.MergeIdeal.main_v21 = X8 at h8 ⊢
    rw [stacked_merge _ j0 j1]
    generalize (⟨j0.val / 2048, _⟩ : Fin 16) = b at h0 h1 h2 h3 h4 ⊢
    generalize (⟨j0.val % 2048, _⟩ : Fin 2048) = r at h0 h1 h2 h3 h4 ⊢
    pointwise [Cert.MergeIdeal.Value.MERGED, Cert.MergeIdeal.Value.gate]
    simp only [h0, h1, h2, h3, h5, h6, h7, h8, zero_sub]
    have h40 : ∀ x : Fin 1024, X4 (ix2 j0 ⟨x.val, by omega⟩) = _ := fun x => h4 ⟨x.val, by omega⟩ (by simp only []; omega)
    have h41 : ∀ x : Fin 1024, X4 (ix2 j0 ⟨1024 + x.val, by omega⟩) = _ := fun x => h4 ⟨1024 + x.val, by omega⟩ (by simp only []; omega)
    have h42 : ∀ x : Fin 1024, X4 (ix2 j0 ⟨2048 + x.val, by omega⟩) = _ := fun x => h4 ⟨2048 + x.val, by omega⟩ (by simp only []; omega)
    simp only [h40, h41, h42]

end Cert.Proof

end
-- ==== Proof.Inproj.lean ====
module

public import proofs.«01_k».proof.Defs
public import proofs.«01_k».proof.Proof.Gen.Inproj.Frame
public import proofs.«01_k».proof.Proof.Gen.InprojIdeal.Frame
public import proofs.«01_k».proof.Proof.Gen.InprojRefIdeal.Run
public import Idealize.ShloMosaic.Lib.Claim
public import Idealize.ShloMosaic.Lib.Pointwise
public import Idealize.ShloMosaic.Lib.StableHlo.RunRead
public import Idealize.ShloMosaic.Lib.Pipeline.ValueKit

@[expose] public section

/-! # The input projection: root-mean-square norm and one product with all the mixer's input weights -/

set_option maxRecDepth 16384

noncomputable section

open Idealize.ShloMosaic Idealize.ShloMosaic.TcCoe Idealize.SL.Sem
open Idealize.ShloMosaic.Pipeline (Dat)

namespace Cert.InprojIdeal.Value

open Cert.InprojIdeal Cert.InprojIdeal.Gen

variable (m : (ℓ : Loc nD τ sig) → Buf (Elt Ideal) ℓ)

/-- Where each window's block lies at every grid point. -/
theorem idx : ∀ t : Fin cfg0.N, win0_0.index t = ![t.val % 64, 0] ∧ win0_1.index t = ![0, 0]
    ∧ win0_2.index t = ![0, t.val / 64] ∧ win0_3.index t = ![t.val % 64, t.val / 64] :=
  (by decide +kernel : ∀ t : Fin grid0.N, _)

/-- A row scaled by the reciprocal root of its mean square, then channel by channel by `G`. -/
def NORMED (X : FVec Ideal S32768x1024 .f32) (G : FVec Ideal S1x1024 .f32) : FVec Ideal S32768x1024 .f32 := fun i =>
  X (ix2 (i 0) (i 1))
    * Ideal.rsqrt (Ideal.div (∑ j : Fin 1024, X (ix2 (i 0) j) * X (ix2 (i 0) j)) (Ideal.ofBits .f32 0x44800000#32)
        + Ideal.ofBits .f32 0x358637BD#32)
    * G (ix2 0 (i 1))

/-- The scaled rows multiplied into the weights `W`. -/
def PROJ (X : FVec Ideal S32768x1024 .f32) (G : FVec Ideal S1x1024 .f32) (W : FVec Ideal S1024x8064 .bf16) :
    FVec Ideal S32768x8064 .f32 := fun i => ∑ k : Fin 1024, NORMED X G (ix2 (i 0) k) * W (ix2 k (i 1))

theorem point (c : Dev nD) (t : Fin cfg0.N) (y) : k0_pay1 (F := Ideal) (iblk m c 0 t) (iblk m c 1 t) (iblk m c 2 t) y
    = PROJ (V m c main_v0) (V m c main_v1) (V m c main_v15) (((cfg0.win 3).blk t).view.emb y) := by
  pointwise [k0_pay1, PROJ, NORMED]
  blk_point [iblk, idx t]

theorem final (c : Dev nD) : (dats m 0 c).arrAt 3 (cfgs 0).N
    = PROJ (V m c main_v0) (V m c main_v1) (V m c main_v15) := by
  refine (dats m 0 c).arrAt_eq_of_covers 3 _ (by decide +kernel) fun t _ y => ?_
  blk_simp
  rw [after0_3]; frame_out
  exact point m c t y

/-- The region finds the rows of `x` laid one under the other, -/
theorem rows_at (c : Dev nD) (r : Fin 32768) (k : Fin 1024) : V m c main_v0 (ix2 r k)
    = m ((c : Thread nD τ).loc main_arg0) (ix3 ⟨r.val / 2048, by omega⟩ ⟨r.val % 2048, by omega⟩ k) := by
  simp only [V, V0, List.flatten_cons, List.flatten_nil, List.append_nil, hostOps0]
  after_reads_simp
  pointwise

/-- the norm's weights as one row, -/
theorem gain_at (c : Dev nD) (k : Fin 1024) : V m c main_v1 (ix2 0 k)
    = m ((c : Thread nD τ).loc main_arg1) (ix1 k) := by
  simp only [V, V0, List.flatten_cons, List.flatten_nil, List.append_nil, hostOps0]
  after_reads_simp
  pointwise

/-- Twelve arrays laid side by side are determined by the twelve. -/
theorem twelve (a0 b0 : FVec Ideal S1024x3072 .f32) (a1 b1 : FVec Ideal S1024x512 .f32) (a2 b2 : FVec Ideal S1024x512 .f32) (a3 b3 : FVec Ideal S1024x512 .f32) (a4 b4 : FVec Ideal S1024x512 .f32) (a5 b5 : FVec Ideal S1024x512 .f32) (a6 b6 : FVec Ideal S1024x512 .f32) (a7 b7 : FVec Ideal S1024x512 .f32) (a8 b8 : FVec Ideal S1024x512 .f32) (a9 b9 : FVec Ideal S1024x768 .f32) (a10 b10 : FVec Ideal S1024x24 .f32) (a11 b11 : FVec Ideal S1024x104 .f32)
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) :
    truncf .bf16 (concatenate S1024x8064 1 [⟨S1024x3072, a0⟩, ⟨S1024x512, a1⟩, ⟨S1024x512, a2⟩, ⟨S1024x512, a3⟩, ⟨S1024x512, a4⟩, ⟨S1024x512, a5⟩, ⟨S1024x512, a6⟩, ⟨S1024x512, a7⟩, ⟨S1024x512, a8⟩, ⟨S1024x768, a9⟩, ⟨S1024x24, a10⟩, ⟨S1024x104, a11⟩]
      concatenates_S1024x3072_S1024x512_S1024x512_S1024x512_S1024x512_S1024x512_S1024x512_S1024x512_S1024x512_S1024x768_S1024x24_S1024x104_S1024x8064_d1) bitsLt_bf16_f32
    = truncf .bf16 (concatenate S1024x8064 1 [⟨S1024x3072, b0⟩, ⟨S1024x512, b1⟩, ⟨S1024x512, b2⟩, ⟨S1024x512, b3⟩, ⟨S1024x512, b4⟩, ⟨S1024x512, b5⟩, ⟨S1024x512, b6⟩, ⟨S1024x512, b7⟩, ⟨S1024x512, b8⟩, ⟨S1024x768, b9⟩, ⟨S1024x24, b10⟩, ⟨S1024x104, b11⟩]
      concatenates_S1024x3072_S1024x512_S1024x512_S1024x512_S1024x512_S1024x512_S1024x512_S1024x512_S1024x512_S1024x768_S1024x24_S1024x104_S1024x8064_d1) bitsLt_bf16_f32 := by
  subst h0 h1 h2 h3 h4 h5 h6 h7 h8 h9 h10 h11; rfl

/-- The weights' columns in the call's order. -/
def columns (W : FVec Ideal S1024x7960 .f32) : FVec Ideal S1024x8064 .bf16 :=
  truncf .bf16 (concatenate S1024x8064 1 [⟨S1024x3072, extractStridedSlice S1024x3072 ![0, 4888] W slices_S1024x7960_S1024x3072_0_4888⟩, ⟨S1024x512, extractStridedSlice S1024x512 ![0, 0] W slices_S1024x7960_S1024x512_0_0⟩, ⟨S1024x512, extractStridedSlice S1024x512 ![0, 512] W slices_S1024x7960_S1024x512_0_512⟩, ⟨S1024x512, extractStridedSlice S1024x512 ![0, 1024] W slices_S1024x7960_S1024x512_0_1024⟩, ⟨S1024x512, extractStridedSlice S1024x512 ![0, 1536] W slices_S1024x7960_S1024x512_0_1536⟩, ⟨S1024x512, extractStridedSlice S1024x512 ![0, 2840] W slices_S1024x7960_S1024x512_0_2840⟩, ⟨S1024x512, extractStridedSlice S1024x512 ![0, 3352] W slices_S1024x7960_S1024x512_0_3352⟩, ⟨S1024x512, extractStridedSlice S1024x512 ![0, 3864] W slices_S1024x7960_S1024x512_0_3864⟩, ⟨S1024x512, extractStridedSlice S1024x512 ![0, 4376] W slices_S1024x7960_S1024x512_0_4376⟩, ⟨S1024x768, extractStridedSlice S1024x768 ![0, 2048] W slices_S1024x7960_S1024x768_0_2048⟩, ⟨S1024x24, extractStridedSlice S1024x24 ![0, 2816] W slices_S1024x7960_S1024x24_0_2816⟩, ⟨S1024x104, broadcastInDim S1024x104 ![] bcast_S_S1024x104 (constant S_ FTy.f32 0#32)⟩]
      concatenates_S1024x3072_S1024x512_S1024x512_S1024x512_S1024x512_S1024x512_S1024x512_S1024x512_S1024x512_S1024x768_S1024x24_S1024x104_S1024x8064_d1) bitsLt_bf16_f32

/-- The region finds the weights in the call's order. -/
theorem weights_read (c : Dev nD) : V m c main_v15 = columns (m ((c : Thread nD τ).loc main_arg2)) := by
  simp only [V, V0, List.flatten_cons, List.flatten_nil, List.append_nil, hostOps0]
  after_results
  refine twelve _ _ _ _ _ _ _ _ _ _ _ _ _ _ _ _ _ _ _ _ _ _ _ _ ?_ ?_ ?_ ?_ ?_ ?_ ?_ ?_ ?_ ?_ ?_ ?_ <;> (dsimp only [Matrix.cons_val]; after_results_simp)

/-- The column each of the call's columns comes from: the gates first, then the wide groups, then the narrow ones, then zeros. -/
theorem columns_at (W : FVec Ideal S1024x7960 .f32) (k : Fin 1024) (q : Fin 8064) : columns W (ix2 k q) =
    if h₁ : q.val < 3072 then W (ix2 k ⟨q.val + 4888, by omega⟩)
    else if h₂ : q.val < 5120 then W (ix2 k ⟨q.val - 3072, by omega⟩)
    else if h₃ : q.val < 7168 then W (ix2 k ⟨q.val - 2280, by omega⟩)
    else if h₄ : q.val < 7960 then W (ix2 k ⟨q.val - 5120, by omega⟩)
    else Ideal.ofBits .f32 0x00000000#32 := by
  pointwise [columns]
  by_cases h0 : q.val < 3072
  · rw [dif_pos h0, dif_pos (by omega : q.val < 3072)] <;>
      exact congrArg W (congrArg (ix2 k) (Fin.ext (by simp only []; omega)))
  rw [dif_neg h0]
  by_cases h1 : q.val - 3072 < 512
  · rw [dif_pos h1, dif_neg (by omega : ¬ q.val < 3072), dif_pos (by omega : q.val < 5120)] <;>
      exact congrArg W (congrArg (ix2 k) (Fin.ext (by simp only []; omega)))
  rw [dif_neg h1]
  by_cases h2 : q.val - 3072 - 512 < 512
  · rw [dif_pos h2, dif_neg (by omega : ¬ q.val < 3072), dif_pos (by omega : q.val < 5120)] <;>
      exact congrArg W (congrArg (ix2 k) (Fin.ext (by simp only []; omega)))
  rw [dif_neg h2]
  by_cases h3 : q.val - 3072 - 512 - 512 < 512
  · rw [dif_pos h3, dif_neg (by omega : ¬ q.val < 3072), dif_pos (by omega : q.val < 5120)] <;>
      exact congrArg W (congrArg (ix2 k) (Fin.ext (by simp only []; omega)))
  rw [dif_neg h3]
  by_cases h4 : q.val - 3072 - 512 - 512 - 512 < 512
  · rw [dif_pos h4, dif_neg (by omega : ¬ q.val < 3072), dif_pos (by omega : q.val < 5120)] <;>
      exact congrArg W (congrArg (ix2 k) (Fin.ext (by simp only []; omega)))
  rw [dif_neg h4]
  by_cases h5 : q.val - 3072 - 512 - 512 - 512 - 512 < 512
  · rw [dif_pos h5, dif_neg (by omega : ¬ q.val < 3072), dif_neg (by omega : ¬ q.val < 5120), dif_pos (by omega : q.val < 7168)] <;>
      exact congrArg W (congrArg (ix2 k) (Fin.ext (by simp only []; omega)))
  rw [dif_neg h5]
  by_cases h6 : q.val - 3072 - 512 - 512 - 512 - 512 - 512 < 512
  · rw [dif_pos h6, dif_neg (by omega : ¬ q.val < 3072), dif_neg (by omega : ¬ q.val < 5120), dif_pos (by omega : q.val < 7168)] <;>
      exact congrArg W (congrArg (ix2 k) (Fin.ext (by simp only []; omega)))
  rw [dif_neg h6]
  by_cases h7 : q.val - 3072 - 512 - 512 - 512 - 512 - 512 - 512 < 512
  · rw [dif_pos h7, dif_neg (by omega : ¬ q.val < 3072), dif_neg (by omega : ¬ q.val < 5120), dif_pos (by omega : q.val < 7168)] <;>
      exact congrArg W (congrArg (ix2 k) (Fin.ext (by simp only []; omega)))
  rw [dif_neg h7]
  by_cases h8 : q.val - 3072 - 512 - 512 - 512 - 512 - 512 - 512 - 512 < 512
  · rw [dif_pos h8, dif_neg (by omega : ¬ q.val < 3072), dif_neg (by omega : ¬ q.val < 5120), dif_pos (by omega : q.val < 7168)] <;>
      exact congrArg W (congrArg (ix2 k) (Fin.ext (by simp only []; omega)))
  rw [dif_neg h8]
  by_cases h9 : q.val - 3072 - 512 - 512 - 512 - 512 - 512 - 512 - 512 - 512 < 768
  · rw [dif_pos h9, dif_neg (by omega : ¬ q.val < 3072), dif_neg (by omega : ¬ q.val < 5120), dif_neg (by omega : ¬ q.val < 7168), dif_pos (by omega : q.val < 7960)] <;>
      exact congrArg W (congrArg (ix2 k) (Fin.ext (by simp only []; omega)))
  rw [dif_neg h9]
  by_cases h10 : q.val - 3072 - 512 - 512 - 512 - 512 - 512 - 512 - 512 - 512 - 768 < 24
  · rw [dif_pos h10, dif_neg (by omega : ¬ q.val < 3072), dif_neg (by omega : ¬ q.val < 5120), dif_neg (by omega : ¬ q.val < 7168), dif_pos (by omega : q.val < 7960)] <;>
      exact congrArg W (congrArg (ix2 k) (Fin.ext (by simp only []; omega)))
  rw [dif_neg h10]
  rw [dif_neg (by omega : ¬ q.val < 3072), dif_neg (by omega : ¬ q.val < 5120), dif_neg (by omega : ¬ q.val < 7168), dif_neg (by omega : ¬ q.val < 7960)]

/-- Five arrays laid side by side are determined by the five. -/
theorem side_by_side (a a' : FVec Ideal S32768x2048 .f32) (b b' : FVec Ideal S32768x768 .f32)
    (d d' : FVec Ideal S32768x24 .f32) (e e' : FVec Ideal S32768x2048 .f32) (f f' : FVec Ideal S32768x3072 .f32)
    (ha : a = a') (hb : b = b') (hd : d = d') (he : e = e') (hf : f = f') :
    shapeCast S16x2048x7960 (concatenate S32768x7960 1
        [⟨S32768x2048, a⟩, ⟨S32768x768, b⟩, ⟨S32768x24, d⟩, ⟨S32768x2048, e⟩, ⟨S32768x3072, f⟩]
        concatenates_S32768x2048_S32768x768_S32768x24_S32768x2048_S32768x3072_S32768x7960_d1)
      shapeCasts_S32768x7960_S16x2048x7960
    = shapeCast S16x2048x7960 (concatenate S32768x7960 1
        [⟨S32768x2048, a'⟩, ⟨S32768x768, b'⟩, ⟨S32768x24, d'⟩, ⟨S32768x2048, e'⟩, ⟨S32768x3072, f'⟩]
        concatenates_S32768x2048_S32768x768_S32768x24_S32768x2048_S32768x3072_S32768x7960_d1)
      shapeCasts_S32768x7960_S16x2048x7960 := by
  subst ha hb hd he hf; rfl

/-- The lines after the region put the columns back in the reference's order. -/
theorem result_read (c : Dev nD) (U : Valuation τ sig (Elt Ideal)) (Y : FVec Ideal S32768x8064 .f32)
    (hY : U (Proc.tc.devRef main_v16) = Y) :
    StableHlo.after (hostOps1 (F := Ideal)) U (Proc.tc.devRef main_v23)
      = shapeCast S16x2048x7960 (concatenate S32768x7960 1
        [⟨S32768x2048, extractStridedSlice S32768x2048 ![0, 3072] Y slices_S32768x8064_S32768x2048_0_3072⟩,
         ⟨S32768x768, extractStridedSlice S32768x768 ![0, 7168] Y slices_S32768x8064_S32768x768_0_7168⟩,
         ⟨S32768x24, extractStridedSlice S32768x24 ![0, 7936] Y slices_S32768x8064_S32768x24_0_7936⟩,
         ⟨S32768x2048, extractStridedSlice S32768x2048 ![0, 5120] Y slices_S32768x8064_S32768x2048_0_5120⟩,
         ⟨S32768x3072, extractStridedSlice S32768x3072 ![0, 0] Y slices_S32768x8064_S32768x3072_0_0⟩]
        concatenates_S32768x2048_S32768x768_S32768x24_S32768x2048_S32768x3072_S32768x7960_d1)
      shapeCasts_S32768x7960_S16x2048x7960 := by
  subst hY
  unfold_abbrev_sides
  after_results
  refine side_by_side _ _ _ _ _ _ _ _ _ _ ?_ ?_ ?_ ?_ ?_ <;> (dsimp only [Matrix.cons_val]; after_results_simp)

/-- A column of the call's order and the reference's column it holds. -/
theorem from_column (W : FVec Ideal S1024x7960 .f32) (k : Fin 1024) (q : Fin 8064) (j : Fin 7960)
    (h : q.val < 3072 ∧ j.val = q.val + 4888 ∨ 3072 ≤ q.val ∧ q.val < 5120 ∧ j.val + 3072 = q.val
      ∨ 5120 ≤ q.val ∧ q.val < 7168 ∧ j.val + 2280 = q.val ∨ 7168 ≤ q.val ∧ q.val < 7960 ∧ j.val + 5120 = q.val) :
    columns W (ix2 k q) = W (ix2 k j) := by
  rw [columns_at]
  split_ifs
  all_goals first
    | exact congrArg W (congrArg (ix2 k) (Fin.ext (by simp only []; omega)))
    | (exfalso; omega)

/-- Putting the columns back undoes the call's order. -/
theorem back_at (X : FVec Ideal S32768x1024 .f32) (G : FVec Ideal S1x1024 .f32) (W : FVec Ideal S1024x7960 .f32)
    (b : Fin 16) (r : Fin 2048) (j : Fin 7960) :
    shapeCast S16x2048x7960 (concatenate S32768x7960 1
        [⟨S32768x2048, extractStridedSlice S32768x2048 ![0, 3072] (PROJ X G (columns W)) slices_S32768x8064_S32768x2048_0_3072⟩,
         ⟨S32768x768, extractStridedSlice S32768x768 ![0, 7168] (PROJ X G (columns W)) slices_S32768x8064_S32768x768_0_7168⟩,
         ⟨S32768x24, extractStridedSlice S32768x24 ![0, 7936] (PROJ X G (columns W)) slices_S32768x8064_S32768x24_0_7936⟩,
         ⟨S32768x2048, extractStridedSlice S32768x2048 ![0, 5120] (PROJ X G (columns W)) slices_S32768x8064_S32768x2048_0_5120⟩,
         ⟨S32768x3072, extractStridedSlice S32768x3072 ![0, 0] (PROJ X G (columns W)) slices_S32768x8064_S32768x3072_0_0⟩]
        concatenates_S32768x2048_S32768x768_S32768x24_S32768x2048_S32768x3072_S32768x7960_d1)
      shapeCasts_S32768x7960_S16x2048x7960 (ix3 b r j)
    = ∑ k : Fin 1024, NORMED X G (ix2 ⟨b.val * 2048 + r.val, by omega⟩ k) * W (ix2 k j) := by
  pointwise [PROJ]
  by_cases h0 : j.val < 2048
  · rw [dif_pos h0]
    exact Finset.sum_congr rfl fun k _ => by rw [from_column W k ⟨3072 + j.val, by omega⟩ j (by simp only []; omega)]
  rw [dif_neg h0]
  by_cases h1 : j.val - 2048 < 768
  · rw [dif_pos h1]
    exact Finset.sum_congr rfl fun k _ => by rw [from_column W k ⟨7168 + (j.val - 2048), by omega⟩ j (by simp only []; omega)]
  rw [dif_neg h1]
  by_cases h2 : j.val - 2048 - 768 < 24
  · rw [dif_pos h2]
    exact Finset.sum_congr rfl fun k _ => by rw [from_column W k ⟨7936 + (j.val - 2048 - 768), by omega⟩ j (by simp only []; omega)]
  rw [dif_neg h2]
  by_cases h3 : j.val - 2048 - 768 - 24 < 2048
  · rw [dif_pos h3]
    exact Finset.sum_congr rfl fun k _ => by rw [from_column W k ⟨5120 + (j.val - 2048 - 768 - 24), by omega⟩ j (by simp only []; omega)]
  rw [dif_neg h3]
  exact Finset.sum_congr rfl fun k _ => by rw [from_column W k ⟨j.val - 2048 - 768 - 24 - 2048, by omega⟩ j (by simp only []; omega)]

theorem result (c : Dev nD) (b : Fin 16) (r : Fin 2048) (j : Fin 7960) :
    Pipeline.afterTail₀ cfgs (dats m) 0 (V0 m) [hostOps1] c main_v23 (ix3 b r j)
    = ∑ k : Fin 1024, NORMED (V m c main_v0) (V m c main_v1) (ix2 ⟨b.val * 2048 + r.val, by omega⟩ k)
        * m ((c : Thread nD τ).loc main_arg2) (ix2 k j) := by
  rw [← back_at, ← weights_read, ← final]
  unfold Pipeline.afterTail₀
  exact congrFun (result_read c _ _ (Pipeline.withArrays_arr spec0
    (by exact (by decide : ∀ v w, Pipeline.arrRef spec0 v = Pipeline.arrRef spec0 w → v = w)) c (V0 m c) _ 3)) _

end Cert.InprojIdeal.Value

namespace Cert.Proof

theorem frame_inprojIdeal : Cert.quiescent_InprojIdeal := fun m ρ _ => Cert.InprojIdeal.Gen.frame m ρ

theorem frame_inproj : Cert.quiescent_Inproj := fun m ρ _ => Cert.Inproj.Gen.frame m ρ

theorem frame_inprojRefIdeal : Cert.quiescent_InprojRefIdeal := fun m ρ _ =>
  (θ_run Cert.InprojRefIdeal.defs _ _).mono (fun r h => ⟨fun c => (h c).2, sem_eq_zero_of_no_sems (by decide) r.2⟩) (Cert.InprojRefIdeal.Value.run (F := Ideal) m ρ)

theorem algebraic_inproj : Cert.algebraic_InprojIdeal_InprojRefIdeal := by
  pair_intro
  · run_from Cert.InprojIdeal.Gen.run_main m g & Cert.InprojIdeal.Gen.unchanged m g
  · run_from Cert.InprojRefIdeal.Value.run m' g'
    symm
    funext j
    idx_vars j
    rw [Cert.InprojIdeal.Value.result]
    pointwise [Cert.InprojIdeal.Value.NORMED]
    have hx : ∀ x, Cert.InprojIdeal.Gen.V m c Cert.InprojIdeal.main_v0 (ix2 ⟨j0.val * 2048 + j1.val, by omega⟩ x)
        = m ((c.tc).loc Cert.InprojIdeal.main_arg0) (ix3 j0 j1 x) := fun x => by
      rw [Cert.InprojIdeal.Value.rows_at m c ⟨j0.val * 2048 + j1.val, by omega⟩ x]
      refine congrArg _ (congrArg₂ (fun a b => ix3 a b x) (Fin.ext ?_) (Fin.ext ?_)) <;> (simp only []; omega)
    have hg := Cert.InprojIdeal.Value.gain_at m c
    generalize Cert.InprojIdeal.Gen.V m c Cert.InprojIdeal.main_v0 = X at hx ⊢
    generalize Cert.InprojIdeal.Gen.V m c Cert.InprojIdeal.main_v1 = G at hg ⊢
    simp only [hx, hg]

end Cert.Proof

end
-- ==== Proof.SbMath.lean ====
module

public import Idealize.ShloMosaic.Lib.Pointwise
public import Idealize.ShloMosaic.Lib.WordCmp

@[expose] public section

/-! # Stick breaking over a sequence: the logarithms of the sticks, and their running sums block by block

The keys are numbered from the start of the sequence, `z s` is a query's logit at key `s`, and `T` is
the query's own place: only the keys before `T` count. -/

noncomputable section

open Idealize.ShloMosaic

namespace Cert.Sticks

/-- `log (1 + e^(-|z|))`, the part both logarithms share. -/
def soft (z : EReal) : EReal := Ideal.log1p (Ideal.exp (0 - max z (-z)))

/-- The logarithm of the stick that remains: `log (1 - sigmoid z)`. -/
def lsn (z : EReal) : EReal := 0 - max z 0 - soft z

/-- The logarithm of the stick that breaks off: `log (sigmoid z)`. -/
def lsp (z : EReal) : EReal := min z 0 - soft z

/-- What key `s` leaves of the stick, as a logarithm; a key that does not count leaves everything. -/
def kept (z : ℕ → EReal) (T s : ℕ) : EReal := if s < T then lsn (z s) else 0

/-- The weight of key `s`: what it breaks off, of what the keys after it and before `N` leave. -/
def weight (z : ℕ → EReal) (T N s : ℕ) : EReal :=
  if s < T then Ideal.exp (lsp (z s) + ∑ u ∈ Finset.Ioo s N, kept z T u) else 0

/-- Entries of a sequence of 2048, and nothing after it. -/
def extend (f : Fin 2048 → EReal) (s : ℕ) : EReal := if h : s < 2048 then f ⟨s, h⟩ else 0

theorem extend_val (f : Fin 2048 → EReal) (s : Fin 2048) : extend f s.val = f s := dif_pos s.isLt

theorem extend_lt (f : Fin 2048 → EReal) {s : ℕ} (h : s < 2048) : extend f s = f ⟨s, h⟩ := dif_pos h

/-- The values, weighted. -/
def mixed (z v : ℕ → EReal) (T N : ℕ) : EReal := ∑ s ∈ Finset.range N, weight z T N s * v s

/-! ## Finite logits have finite logarithms -/

/-- An extended real that is a real number. -/
def Finite (x : EReal) : Prop := ∃ r : ℝ, x = (r : EReal)

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

theorem soft_finite {z : EReal} (h : Finite z) : Finite (soft z) := by
  obtain ⟨r, rfl⟩ := h
  refine ⟨Real.log (1 + Real.exp (-|r|)), ?_⟩
  have h1 : (0 : EReal) - max (r : EReal) (-(r : EReal)) = ((-|r| : ℝ) : EReal) := by
    rw [← EReal.coe_neg, ← coe_max, zero_sub, ← EReal.coe_neg]; rfl
  unfold soft
  rw [h1]
  have hp : 0 < 1 + Real.exp (-|r|) := by positivity
  have h2 : Ideal.exp ((-|r| : ℝ) : EReal) = ((Real.exp (-|r|) : ℝ) : EReal) := rfl
  rw [h2]
  unfold Ideal.log1p
  rw [← EReal.coe_one, ← EReal.coe_add]
  exact if_neg (not_le.2 hp)

theorem lsn_finite {z : EReal} (h : Finite z) : Finite (lsn z) := by
  obtain ⟨s, hs⟩ := soft_finite h
  obtain ⟨r, rfl⟩ := h
  refine ⟨0 - max r 0 - s, ?_⟩
  unfold lsn
  rw [hs, EReal.coe_sub, EReal.coe_sub, coe_max, EReal.coe_zero]

theorem kept_finite {z : ℕ → EReal} {T s : ℕ} (h : Finite (z s)) : Finite (kept z T s) := by
  unfold kept
  split
  · exact lsn_finite h
  · exact ⟨0, rfl⟩

theorem sub_self {x : EReal} (h : Finite x) : x - x = 0 := by
  obtain ⟨r, rfl⟩ := h
  rw [← EReal.coe_sub, _root_.sub_self]; rfl

theorem add_sub_self {x : EReal} (h : Finite x) (y : EReal) : x + y - x = y := by
  obtain ⟨r, rfl⟩ := h
  rw [add_comm]
  exact EReal.add_sub_cancel_right

/-- `-(max (-z) 0 + log (1 + e^(-|z|)))`, the logarithm of the sigmoid as the softplus of `-z`, is `lsp z`; -/
theorem lsp_eq {z : EReal} (h : Finite z) : -(max (-z) 0 + Ideal.log1p (Ideal.exp (-max (-z) (- -z)))) = lsp z := by
  obtain ⟨s, hs⟩ := soft_finite h
  have e : Ideal.log1p (Ideal.exp (-max (-z) (- -z))) = soft z := by
    unfold soft; rw [zero_sub, neg_neg, max_comm]
  obtain ⟨r, rfl⟩ := h
  unfold lsp
  rw [e, hs, ← EReal.coe_neg, ← EReal.coe_zero, ← coe_max, ← EReal.coe_add, ← EReal.coe_neg, ← coe_min, ← EReal.coe_sub]
  congr 1
  have := min_neg_neg r 0
  rw [neg_zero] at *
  rcases le_total r 0 with h | h
  · rw [max_eq_left (by linarith), min_eq_left h]; ring
  · rw [max_eq_right (by linarith), min_eq_right h]; ring

/-- and the logarithm of `1 - sigmoid z`, as the sigmoid's at `-z`, is `lsn z`. -/
theorem lsn_eq {z : EReal} (h : Finite z) : -(max (- -z) 0 + Ideal.log1p (Ideal.exp (-max (- -z) (- - -z)))) = lsn z := by
  obtain ⟨s, hs⟩ := soft_finite h
  have e : Ideal.log1p (Ideal.exp (-max (- -z) (- - -z))) = soft z := by
    unfold soft; rw [zero_sub, neg_neg]
  rw [e]
  obtain ⟨r, rfl⟩ := h
  unfold lsn
  rw [hs, neg_neg, ← EReal.coe_zero, ← coe_max, ← EReal.coe_add, ← EReal.coe_neg, ← EReal.coe_sub, ← EReal.coe_sub]
  congr 1
  ring

theorem eighth : Ideal.ofBits .f32 0x3E000000#32 = (((1 : ℝ) / 8 : ℝ) : EReal) := by
  simp [Ideal.ofBits, Ideal.ieee, -EReal.coe_mul]; norm_num

/-- A sum of products of real numbers, scaled by one, is a real number. -/
theorem dot_finite {n : ℕ} (a b : Fin n → EReal) {w : EReal} (hw : Finite w) (ha : ∀ i, Finite (a i)) (hb : ∀ i, Finite (b i)) :
    Finite ((∑ i, a i * b i) * w) := by
  obtain ⟨w', rfl⟩ := hw
  choose a' ha' using ha
  choose b' hb' using hb
  refine ⟨(∑ i, a' i * b' i) * w', ?_⟩
  rw [EReal.coe_mul]
  congr 1
  have : ∀ i, a i * b i = ((a' i * b' i : ℝ) : EReal) := fun i => by rw [ha', hb', EReal.coe_mul]
  simp only [this]
  exact (map_sum (⟨⟨Real.toEReal, rfl⟩, EReal.coe_add⟩ : ℝ →+ EReal) _ _).symm

/-! ## Sums over blocks of 128 keys -/

theorem block_sum (f : ℕ → EReal) (B : ℕ) : ∑ x : Fin 128, f (B + x.val) = ∑ u ∈ Finset.Ico B (B + 128), f u := by
  rw [Finset.sum_Ico_eq_sum_range, Nat.add_sub_cancel_left, Fin.sum_univ_eq_sum_range (fun x => f (B + x)) 128]

/-- The part of a block that lies after its key `c`, by a triangle of ones and zeros. -/
theorem after_sum (f : ℕ → EReal) (B c : ℕ) :
    ∑ x : Fin 128, f (B + x.val) * (if c < x.val then 1 else 0) = ∑ u ∈ Finset.Ioo (B + c) (B + 128), f u := by
  have h : ∀ x : Fin 128, f (B + x.val) * (if c < x.val then 1 else 0) = (fun u => if B + c < u then f u else 0) (B + x.val) := fun x => by
    dsimp only
    by_cases hc : c < x.val
    · rw [if_pos hc, if_pos (by omega), mul_one]
    · rw [if_neg hc, if_neg (by omega), mul_zero]
  rw [Finset.sum_congr rfl fun x _ => h x, block_sum (fun u => if B + c < u then f u else 0), ← Finset.sum_filter]
  refine Finset.sum_congr (Finset.ext fun u => ?_) fun _ _ => rfl
  simp only [Finset.mem_filter, Finset.mem_Ico, Finset.mem_Ioo]
  omega

/-- The keys of one block after `c`, then those of the blocks behind it. -/
theorem after_split (f : ℕ → EReal) {B c N : ℕ} (hc : c < 128) (hN : B + 128 ≤ N) :
    ∑ u ∈ Finset.Ico (B + 128) N, f u + ∑ u ∈ Finset.Ioo (B + c) (B + 128), f u = ∑ u ∈ Finset.Ioo (B + c) N, f u := by
  have e : ∀ M, Finset.Ioo (B + c) M = Finset.Ico (B + c + 1) M := fun M => Finset.ext fun u => by
    simp only [Finset.mem_Ico, Finset.mem_Ioo]; omega
  rw [e, e, add_comm]
  exact Finset.sum_Ico_consecutive f (by omega) hN

/-- One block more. -/
theorem block_step (f : ℕ → EReal) {B N : ℕ} (hN : B + 128 ≤ N) :
    ∑ u ∈ Finset.Ico (B + 128) N, f u + ∑ x : Fin 128, f (B + x.val) = ∑ u ∈ Finset.Ico B N, f u := by
  rw [block_sum, add_comm]
  exact Finset.sum_Ico_consecutive f (by omega) hN

/-! ## Keys that do not count -/

theorem kept_sum (z : ℕ → EReal) {T N N' s : ℕ} (h : T ≤ N) (h' : N ≤ N') :
    ∑ u ∈ Finset.Ioo s N', kept z T u = ∑ u ∈ Finset.Ioo s N, kept z T u := by
  symm
  refine Finset.sum_subset (fun u hu => ?_) fun u hu hn => ?_
  · simp only [Finset.mem_Ioo] at hu ⊢; omega
  · simp only [Finset.mem_Ioo] at hu hn
    exact if_neg (by omega)

/-- Going on past the query's own place changes nothing. -/
theorem mixed_eq (z v : ℕ → EReal) {T N N' : ℕ} (h : T ≤ N) (h' : N ≤ N') : mixed z v T N' = mixed z v T N := by
  unfold mixed
  have e : ∀ s, weight z T N' s = weight z T N s := fun s => by
    unfold weight
    rw [kept_sum z h h']
  simp only [e]
  symm
  refine Finset.sum_subset (fun u hu => ?_) fun u hu hn => ?_
  · simp only [Finset.mem_range] at hu ⊢; omega
  · simp only [Finset.mem_range] at hu hn
    rw [weight, if_neg (by omega), zero_mul]

/-- The mix over the whole sequence, its running sums written as whole sums less the key's own term. -/
theorem mixed_full (z v : ℕ → EReal) (T : ℕ) (hz : ∀ s < 2048, Finite (z s)) :
    ∑ s : Fin 2048, (if s.val < T then Ideal.exp (lsp (z s.val) + (∑ u ∈ Finset.Ico s.val 2048, kept z T u - kept z T s.val)) else 0) * v s.val
      = mixed z v T 2048 := by
  unfold mixed
  rw [← Fin.sum_univ_eq_sum_range (fun s => weight z T 2048 s * v s) 2048]
  refine Finset.sum_congr rfl fun s _ => ?_
  have e : ∑ u ∈ Finset.Ico s.val 2048, kept z T u - kept z T s.val = ∑ u ∈ Finset.Ioo s.val 2048, kept z T u := by
    rw [Finset.sum_eq_sum_Ico_succ_bot s.isLt, add_sub_self (kept_finite (hz _ s.isLt))]
    refine Finset.sum_congr (Finset.ext fun u => ?_) fun _ _ => rfl
    simp only [Finset.mem_Ico, Finset.mem_Ioo]; omega
  rw [e]; rfl

/-- A sum over `n` places from `s` on, those past the end left out. -/
theorem window_sum (f : ℕ → EReal) {n s : ℕ} (hs : s < n) : ∑ i ∈ Finset.range n, (if s + i < n then f (s + i) else 0) = ∑ u ∈ Finset.Ico s n, f u := by
  rw [Finset.sum_Ico_eq_sum_range, ← Finset.sum_filter]
  refine Finset.sum_congr (Finset.ext fun u => ?_) fun _ _ => rfl
  simp only [Finset.mem_filter, Finset.mem_range]; omega

/-- A choice by the comparison of two small numbers, as words. -/
theorem choose_lt {s t : ℕ} (hs : s < 2048) (ht : t < 2048) (a b : EReal) :
    Scalar.select (IntOp.cmpi .slt (BitVec.ofNat 32 s) (BitVec.ofNat 32 t)) a b = if s < t then a else b := by
  rw [WordCmp.cmpi_slt_ofNat (by omega) (by omega)]
  by_cases h : s < t <;> simp [h, Scalar.select]

/-- A left fold that adds is a sum. -/
theorem foldl_sum {ι : Type} (l : List ι) (g : ι → EReal) (a : EReal) : l.foldl (fun r n => r + g n) a = a + (l.map g).sum := by
  induction l generalizing a with
  | nil => simp
  | cons x l ih => simp only [List.foldl_cons, List.map_cons, List.sum_cons, ih, add_assoc]

end Cert.Sticks
end
-- ==== Proof.CmpMath.lean ====
module

public import proofs.«01_k».proof.Proof.SbMath

@[expose] public section

/-! # The compressed keys' arithmetic -/

noncomputable section

namespace Cert.Compressed

open Cert.Sticks

/-- A finite weight distributes over a sum with a finite summand. -/
theorem distrib (a b w : EReal) (hb : Finite b) (hw : Finite w) : (a + b) * w = a * w + b * w := by
  obtain ⟨b, rfl⟩ := hb
  obtain ⟨w, rfl⟩ := hw
  induction a with
  | coe a => norm_cast; ring
  | top =>
    rw [EReal.top_add_coe, ← EReal.coe_mul]
    rcases lt_trichotomy w 0 with h | rfl | h
    · rw [EReal.top_mul_coe_of_neg h, EReal.bot_add]
    · simp
    · rw [EReal.top_mul_coe_of_pos h, EReal.top_add_coe]
  | bot =>
    rw [EReal.bot_add, ← EReal.coe_mul]
    rcases lt_trichotomy w 0 with h | rfl | h
    · rw [EReal.bot_mul_coe_of_neg h, EReal.top_add_coe]
    · simp
    · rw [EReal.bot_mul_coe_of_pos h, EReal.bot_add]

/-- A window's two halves and its position embedding, multiplied in apart or added up first. -/
theorem window (lo hi : Fin 1024 → EReal) (b w : Fin 2048 → EReal) (hb : ∀ y, Finite (b y)) (hw : ∀ y, Finite (w y)) (a : Fin 2048 → EReal)
    (hlo : ∀ x : Fin 1024, a ⟨x.val, by omega⟩ = lo x) (hhi : ∀ x : Fin 1024, a ⟨1024 + x.val, by omega⟩ = hi x) :
    ∑ y, (a y + b y) * w y = (∑ x : Fin 1024, lo x * w ⟨x.val, by omega⟩) + (∑ x : Fin 1024, hi x * w ⟨1024 + x.val, by omega⟩) + ∑ y, b y * w y := by
  have h : ∑ y, a y * w y = (∑ x : Fin 1024, lo x * w ⟨x.val, by omega⟩) + ∑ x : Fin 1024, hi x * w ⟨1024 + x.val, by omega⟩ := by
    refine (Fin.sum_univ_add (a := 1024) (b := 1024) fun y : Fin 2048 => a y * w y).trans ?_
    refine congrArg₂ (· + ·) (Finset.sum_congr rfl fun x _ => ?_) (Finset.sum_congr rfl fun x _ => ?_)
    · rw [← hlo]; rfl
    · rw [← hhi]; rfl
  rw [← h, ← Finset.sum_add_distrib]
  exact Finset.sum_congr rfl fun y _ => distrib _ _ _ (hb y) (hw y)

end Cert.Compressed

end
-- ==== Proof.CmpRef.lean ====
module

public import proofs.«01_k».proof.Proof.CmpMath
public import proofs.«01_k».proof.Proof.Gen.CompressRefIdeal.Run
public import Idealize.ShloMosaic.Lib.Claim
public import Idealize.ShloMosaic.Lib.Pointwise

@[expose] public section

/-! # The reference's compressed keys and values -/

set_option maxRecDepth 16384

noncomputable section

open Idealize.ShloMosaic Idealize.ShloMosaic.TcCoe Idealize.SL.Sem

namespace Cert.CompressRefIdeal.Value

open Cert.CompressRefIdeal Cert.CompressRefIdeal.Gen Cert.Sticks

/-- The windows of key (`k = 0`) or value (`k = 1`) rows with the position embeddings added, multiplied into the weights. -/
def half (k : ℕ) (hk : S6x16x2x2048x64.Slices ![k, 0, 0, 0, 0] S1x16x2x2048x64) (X : FVec Ideal S16x2048x7960 .f32) (Wt : FVec Ideal S2048x64 .f32) (Pe : FVec Ideal S32x64 .f32) :
    FVec Ideal S16x1x2x127x64 .f32 :=
  let rows : FVec Ideal S16x2x128x16x64 .f32 := shapeCast _ (shapeCast _ (extractStridedSlice S1x16x2x2048x64 ![k, 0, 0, 0, 0] (transpose S6x16x2x2048x64 [2, 0, 3, 1, 4] (shapeCast _ (extractStridedSlice S16x2048x768 ![0, 0, 2048] X slices_S16x2048x7960_S16x2048x768_0_0_2048) shapeCasts_S16x2048x768_S16x2048x6x2x64) transposes_S16x2048x6x2x64_S6x16x2x2048x64_2_0_3_1_4) hk) shapeCasts_S1x16x2x2048x64_S16x2x2048x64) shapeCasts_S16x2x2048x64_S16x2x128x16x64
  broadcastInDim S16x1x2x127x64 ![0, 2, 3, 4] bcast_S16x2x127x64_S16x1x2x127x64_0_2_3_4 (Host.dotGeneral dot_S16x2x127x2048_S2048x64_S16x2x127x64_3_0_012_1_n_n none (shapeCast _ (addf (concatenate S16x2x127x32x64 3 [⟨S16x2x127x16x64, (extractStridedSlice S16x2x127x16x64 ![0, 0, 0, 0, 0] rows slices_S16x2x128x16x64_S16x2x127x16x64_0_0_0_0_0)⟩, ⟨S16x2x127x16x64, (extractStridedSlice S16x2x127x16x64 ![0, 0, 1, 0, 0] rows slices_S16x2x128x16x64_S16x2x127x16x64_0_0_1_0_0)⟩] concatenates_S16x2x127x16x64_S16x2x127x16x64_S16x2x127x32x64_d3) (broadcastInDim S16x2x127x32x64 ![0, 1, 2, 3, 4] bcast_S1x1x1x32x64_S16x2x127x32x64_0_1_2_3_4 (broadcastInDim S1x1x1x32x64 ![3, 4] bcast_S32x64_S1x1x1x32x64_3_4 Pe))) shapeCasts_S16x2x127x32x64_S16x2x127x2048) Wt)

/-- The entry of `proj` that a compressed window of key or value rows starting at piece `n` has at place `y`. -/
def ENTRY (X : FVec Ideal S16x2048x7960 .f32) (b : Fin 16) (k g : Fin 2) (n : Fin 127) (y : Fin 2048) : EReal :=
  X (ix3 b ⟨n.val * 16 + y.val / 64, by omega⟩ ⟨2048 + (k.val * 128 + g.val * 64 + y.val % 64), by omega⟩)

theorem half_at (k : Fin 2) (hk) (X Wt Pe) (b : Fin 16) (g : Fin 2) (n : Fin 127) (e : Fin 64) :
    half k.val hk X Wt Pe (ix5 b 0 g n e) = ∑ y : Fin 2048, (ENTRY X b k g n y + Pe (ix2 ⟨y.val / 64, by omega⟩ ⟨y.val % 64, by omega⟩)) * Wt (ix2 y e) := by
  unfold half ENTRY
  pointwise
  refine Finset.sum_congr rfl fun y _ => congrArg (fun z : EReal => (z + _) * _) ?_
  by_cases h : y.val / 64 < 16
  · rw [dif_pos h]
  · rw [dif_neg h]
    exact congrArg (fun r : Fin 2048 => X (ix3 b r _)) (Fin.ext (by dsimp only; omega))

/-- Two arrays laid one after the other along the second axis. -/
theorem either_at (A B : FVec Ideal S16x1x2x127x64 .f32) (b : Fin 16) (k g : Fin 2) (n : Fin 127) (e : Fin 64) :
    concatenate S16x2x2x127x64 1 [⟨S16x1x2x127x64, A⟩, ⟨S16x1x2x127x64, B⟩] concatenates_S16x1x2x127x64_S16x1x2x127x64_S16x2x2x127x64_d1 (ix5 b k g n e)
      = if k.val = 0 then A (ix5 b 0 g n e) else B (ix5 b 0 g n e) := by
  pointwise
  by_cases h : k.val < 1
  · rw [dif_pos h, if_pos (by omega)]
    exact congrArg (fun z : Fin 1 => A (ix5 b z g n e)) (Subsingleton.elim _ _)
  · have h0 : ¬ k.val = 0 := by omega
    rw [dif_neg h]
    exact (congrArg (fun z : Fin 1 => B (ix5 b z g n e)) (Subsingleton.elim _ _)).trans (if_neg h0).symm

theorem read (X : FVec Ideal S16x2048x7960 .f32) (Wk Wv : FVec Ideal S2048x64 .f32) (Pe : FVec Ideal S32x64 .f32) (b : Fin 16) (k g : Fin 2) (n : Fin 127) (e : Fin 64) :
    concatenate S16x2x2x127x64 1 [⟨S16x1x2x127x64, half 0 slices_S6x16x2x2048x64_S1x16x2x2048x64_0_0_0_0_0 X Wk Pe⟩, ⟨S16x1x2x127x64, half 1 slices_S6x16x2x2048x64_S1x16x2x2048x64_1_0_0_0_0 X Wv Pe⟩]
      concatenates_S16x1x2x127x64_S16x1x2x127x64_S16x2x2x127x64_d1 (ix5 b k g n e)
      = ∑ y : Fin 2048, (ENTRY X b k g n y + Pe (ix2 ⟨y.val / 64, by omega⟩ ⟨y.val % 64, by omega⟩)) * (if k.val = 0 then Wk else Wv) (ix2 y e) := by
  rw [either_at]
  obtain ⟨k, hk⟩ := k
  interval_cases k
  · exact half_at 0 _ X Wk Pe b g n e
  · exact half_at 1 _ X Wv Pe b g n e

end Cert.CompressRefIdeal.Value
end
-- ==== Proof.Below.lean ====
module

public import proofs.«01_k».proof.Proof.SbMath
public import Idealize.ShloMosaic.Lib.Claim

@[expose] public section

/-! # Reading a precondition of finiteness -/

noncomputable section

open Idealize.ShloMosaic

namespace Cert.Sticks

/-- A number whose absolute value is below infinity is real. -/
theorem finite_of_below (z : EReal) (h : FloatOps.cmpf (F := Ideal) (φ := .f32) .olt (max z (-z)) (Ideal.ofBits .f32 0x7F800000#32) = 1#1) : Finite z := by
  have top : Ideal.ofBits .f32 0x7F800000#32 = ⊤ := by simp [Ideal.ofBits, Ideal.ieee]
  have l : max z (-z) < ⊤ := by
    by_contra hn
    rw [top, Ideal.cmpf_def] at h
    simp only [Ideal.cmp, if_neg hn, decide_eq_false hn] at h
    exact absurd h (by decide)
  have h1 : z ≠ ⊤ := ne_of_lt (lt_of_le_of_lt (le_max_left _ _) l)
  have h2 : z ≠ ⊥ := fun hb => by
    have := lt_of_le_of_lt (le_max_right z (-z)) l
    rw [hb] at this
    exact absurd this (by simp)
  exact ⟨z.toReal, (EReal.coe_toReal h1 h2).symm⟩

end Cert.Sticks

end
-- ==== Proof.CmpEntry.lean ====
module

public import proofs.«01_k».proof.Proof.Gen.CompressIdeal.Frame
public import Idealize.ShloMosaic.Lib.Claim
public import Idealize.ShloMosaic.Lib.Pointwise
public import Idealize.ShloMosaic.Lib.StableHlo.RunRead
public import Idealize.ShloMosaic.Lib.Pipeline.ValueKit

@[expose] public section

/-! # What the compressing region finds -/

set_option maxRecDepth 16384

noncomputable section

open Idealize.ShloMosaic Idealize.ShloMosaic.TcCoe Idealize.SL.Sem
open Idealize.ShloMosaic.Pipeline (Dat)

namespace Cert.CompressIdeal.Value

open Cert.CompressIdeal Cert.CompressIdeal.Gen

variable (m : (ℓ : Loc nD τ sig) → Buf (Elt Ideal) ℓ)

/-- Of twelve arrays laid side by side the tenth. -/
theorem tenth (a0 : FVec Ideal S16x2048x3072 .f32) (a1 a2 a3 a4 a5 a6 a7 a8 : FVec Ideal S16x2048x512 .f32)
    (a9 : FVec Ideal S16x2048x768 .f32) (a10 : FVec Ideal S16x2048x24 .f32) (a11 : FVec Ideal S16x2048x104 .f32) (X : FVec Ideal S16x2048x7960 .f32)
    (h9 : a9 = extractStridedSlice S16x2048x768 ![0, 0, 2048] X slices_S16x2048x7960_S16x2048x768_0_0_2048)
    (b : Fin 16) (s : Fin 2048) (q : Fin 768) :
    concatenate S16x2048x8064 2 [⟨S16x2048x3072, a0⟩, ⟨S16x2048x512, a1⟩, ⟨S16x2048x512, a2⟩, ⟨S16x2048x512, a3⟩, ⟨S16x2048x512, a4⟩, ⟨S16x2048x512, a5⟩, ⟨S16x2048x512, a6⟩, ⟨S16x2048x512, a7⟩, ⟨S16x2048x512, a8⟩, ⟨S16x2048x768, a9⟩, ⟨S16x2048x24, a10⟩, ⟨S16x2048x104, a11⟩]
      concatenates_S16x2048x3072_S16x2048x512_S16x2048x512_S16x2048x512_S16x2048x512_S16x2048x512_S16x2048x512_S16x2048x512_S16x2048x512_S16x2048x768_S16x2048x24_S16x2048x104_S16x2048x8064_d2
      (ix3 b s ⟨7168 + q.val, by omega⟩) = X (ix3 b s ⟨2048 + q.val, by omega⟩) := by
  subst h9
  pointwise
  iterate 9 rw [dif_neg (by omega)]
  rw [dif_pos (by omega)]
  exact congrArg X (congrArg (ix3 b s) (Fin.ext (by dsimp only; omega)))

/-- The key and value columns cut into pieces of sixteen rows. -/
theorem cut_at (Y : FVec Ideal S16x2048x8064 .f32) (b : Fin 16) (k g : Fin 2) (r : Fin 128) (x : Fin 1024) :
    shapeCast S16x2x2x128x1024 (transpose S16x2x2x2048x64 [0, 2, 3, 1, 4] (shapeCast S16x2048x2x2x64 (extractStridedSlice S16x2048x256 ![0, 0, 7168] Y slices_S16x2048x8064_S16x2048x256_0_0_7168) shapeCasts_S16x2048x256_S16x2048x2x2x64)
      transposes_S16x2048x2x2x64_S16x2x2x2048x64_0_2_3_1_4) shapeCasts_S16x2x2x2048x64_S16x2x2x128x1024 (ix5 b k g r x)
      = Y (ix3 b ⟨r.val * 16 + x.val / 64, by omega⟩ ⟨7168 + (k.val * 128 + g.val * 64 + x.val % 64), by omega⟩) := by
  pointwise

/-- The lines before the region cut the key and value columns into pieces of sixteen rows. -/
theorem pieces_at (c : Dev nD) (b : Fin 16) (k g : Fin 2) (r : Fin 128) (x : Fin 1024) :
    V m c main_v16 (ix5 b k g r x) = m ((c : Thread nD τ).loc main_arg0) (ix3 b ⟨r.val * 16 + x.val / 64, by omega⟩ ⟨2048 + (k.val * 128 + g.val * 64 + x.val % 64), by omega⟩) := by
  simp only [V, V0, List.flatten_cons, List.flatten_nil, List.append_nil, hostOps0]
  after_results
  refine (cut_at _ b k g r x).trans ?_
  refine tenth _ _ _ _ _ _ _ _ _ _ _ _ (m ((c : Thread nD τ).loc main_arg0)) ?_ b ⟨r.val * 16 + x.val / 64, by omega⟩ ⟨k.val * 128 + g.val * 64 + x.val % 64, by omega⟩
  dsimp only [Matrix.cons_val]
  after_results_simp

theorem weights_at (c : Dev nD) (k : Fin 2) (y : Fin 2048) (e : Fin 64) : V m c main_v19 (ix3 k y e)
    = (if k.val = 0 then m ((c : Thread nD τ).loc main_arg1) else m ((c : Thread nD τ).loc main_arg2) : FVec Ideal S2048x64 .f32) (ix2 y e) := by
  simp only [V, V0, List.flatten_cons, List.flatten_nil, List.append_nil, hostOps0]
  after_reads_simp
  pointwise
  obtain ⟨k, hk⟩ := k
  interval_cases k <;> rfl

theorem places_at (c : Dev nD) (y : Fin 2048) : V m c main_v20 (ix2 0 y)
    = m ((c : Thread nD τ).loc main_arg3) (ix2 ⟨y.val / 64, by omega⟩ ⟨y.val % 64, by omega⟩) := by
  simp only [V, V0, List.flatten_cons, List.flatten_nil, List.append_nil, hostOps0]
  after_reads_simp
  pointwise

end Cert.CompressIdeal.Value

end
-- ==== Proof.CmpPay.lean ====
module

public import proofs.«01_k».proof.Proof.Gen.CompressIdeal.Frame
public import Idealize.ShloMosaic.Lib.Claim
public import Idealize.ShloMosaic.Lib.Pointwise
public import Idealize.ShloMosaic.Lib.StableHlo.RunRead
public import Idealize.ShloMosaic.Lib.Pipeline.ValueKit

@[expose] public section

/-! # One block of compressed keys or values -/

set_option maxRecDepth 16384

noncomputable section

open Idealize.ShloMosaic Idealize.ShloMosaic.TcCoe Idealize.SL.Sem
open Idealize.ShloMosaic.Pipeline (Dat)

namespace Cert.CompressIdeal.Value

open Cert.CompressIdeal Cert.CompressIdeal.Gen

/-- A block of the result at an entry. -/
theorem pay_at (x0 : Vec Ideal S1x1x1x128x1024 .f32) (x1 : Vec Ideal S1x2048x64 .f32) (x2 : Vec Ideal S1x2048 .f32) (r : Fin 128) (e : Fin 64) :
    k0_pay1 (F := Ideal) x0 x1 x2 (ix5 0 0 0 r e)
    = (∑ x : Fin 1024, x0 (ix5 0 0 0 r x) * x1 (ix3 0 ⟨x.val, by omega⟩ e))
      + (∑ x : Fin 1024, x0 (ix5 0 0 0 ⟨(r.val + 1) % 128, Nat.mod_lt _ (by decide)⟩ x) * x1 (ix3 0 ⟨1024 + x.val, by omega⟩ e))
      + ∑ y : Fin 2048, x2 (ix2 0 y) * x1 (ix3 0 y e) := by
  pointwise [k0_pay1]
  simp only [show r.val + 128 - 127 = r.val + 1 from by omega]

end Cert.CompressIdeal.Value

end
-- ==== Proof.CmpBlock.lean ====
module

public import proofs.«01_k».proof.Proof.Gen.CompressIdeal.Frame
public import Idealize.ShloMosaic.Lib.Claim
public import Idealize.ShloMosaic.Lib.Pointwise
public import Idealize.ShloMosaic.Lib.StableHlo.RunRead
public import Idealize.ShloMosaic.Lib.Pipeline.ValueKit

@[expose] public section

/-! # Where the blocks of compressed keys and values lie -/

set_option maxRecDepth 16384

noncomputable section

open Idealize.ShloMosaic Idealize.ShloMosaic.TcCoe Idealize.SL.Sem
open Idealize.ShloMosaic.Pipeline (Dat)

namespace Cert.CompressIdeal.Value

open Cert.CompressIdeal Cert.CompressIdeal.Gen

variable (m : (ℓ : Loc nD τ sig) → Buf (Elt Ideal) ℓ)

/-- Where each window's block lies at every grid point. -/
theorem idx : ∀ t : Fin cfg0.N, win0_0.index t = ![t.val / 4, t.val / 2 % 2, t.val % 2, 0, 0] ∧ win0_1.index t = ![t.val / 2 % 2, 0, 0]
    ∧ win0_2.index t = ![0, 0] ∧ win0_3.index t = ![t.val / 4, t.val / 2 % 2, t.val % 2, 0, 0] ∧ t.val < 64 :=
  (by decide +kernel : ∀ t : Fin grid0.N, _)

/-- A piece times the weights' upper half, the next piece (after the last the first) times their lower half, and the position embeddings times them all. -/
def CMP (P : FVec Ideal S16x2x2x128x1024 .f32) (Wt : FVec Ideal S2x2048x64 .f32) (Pe : FVec Ideal S1x2048 .f32) : FVec Ideal S16x2x2x128x64 .f32 := fun i =>
  (∑ x : Fin 1024, P (ix5 (i 0) (i 1) (i 2) (i 3) x) * Wt (ix3 (i 1) ⟨x.val, by omega⟩ (i 4)))
    + (∑ x : Fin 1024, P (ix5 (i 0) (i 1) (i 2) ⟨((i 3).val + 1) % 128, Nat.mod_lt _ (by decide)⟩ x) * Wt (ix3 (i 1) ⟨1024 + x.val, by omega⟩ (i 4)))
    + ∑ y : Fin 2048, Pe (ix2 0 y) * Wt (ix3 (i 1) y (i 4))

theorem p_at (c : Dev nD) (t : Fin cfg0.N) (b : Fin 16) (k g : Fin 2) (hb : b.val = t.val / 4) (hk : k.val = t.val / 2 % 2) (hg : g.val = t.val % 2)
    (r : Fin 128) (x : Fin 1024) : iblk m c 0 t (ix5 0 0 0 r x) = V m c main_v16 (ix5 b k g r x) := by
  blk_point [iblk, idx t]

theorem w_at (c : Dev nD) (t : Fin cfg0.N) (k : Fin 2) (hk : k.val = t.val / 2 % 2)
    (y : Fin 2048) (e : Fin 64) : iblk m c 1 t (ix3 0 y e) = V m c main_v19 (ix3 k y e) := by
  blk_point [iblk, idx t]

theorem e_at (c : Dev nD) (t : Fin cfg0.N) (y : Fin 2048) : iblk m c 2 t (ix2 0 y) = V m c main_v20 (ix2 0 y) := by
  blk_point [iblk, idx t]

theorem o_at (A : FVec Ideal S16x2x2x128x64 .f32) (t : Fin cfg0.N) (b : Fin 16) (k g : Fin 2) (hb : b.val = t.val / 4) (hk : k.val = t.val / 2 % 2) (hg : g.val = t.val % 2)
    (r : Fin 128) (e : Fin 64) : A (((cfg0.win 3).blk t).view.emb (ix5 0 0 0 r e)) = A (ix5 b k g r e) := by
  blk_point [idx t]

end Cert.CompressIdeal.Value

end
-- ==== Proof.CmpFinal.lean ====
module

public import proofs.«01_k».proof.Proof.CmpPay
public import proofs.«01_k».proof.Proof.CmpBlock
public import proofs.«01_k».proof.Proof.Gen.CompressIdeal.Frame
public import Idealize.ShloMosaic.Lib.Claim
public import Idealize.ShloMosaic.Lib.Pointwise
public import Idealize.ShloMosaic.Lib.StableHlo.RunRead
public import Idealize.ShloMosaic.Lib.Pipeline.ValueKit

@[expose] public section

/-! # All the compressed keys and values -/

set_option maxRecDepth 16384

noncomputable section

open Idealize.ShloMosaic Idealize.ShloMosaic.TcCoe Idealize.SL.Sem
open Idealize.ShloMosaic.Pipeline (Dat)

namespace Cert.CompressIdeal.Value

open Cert.CompressIdeal Cert.CompressIdeal.Gen

variable (m : (ℓ : Loc nD τ sig) → Buf (Elt Ideal) ℓ)

theorem point_at (c : Dev nD) (t : Fin cfg0.N) (r : Fin 128) (e : Fin 64) : k0_pay1 (F := Ideal) (iblk m c 0 t) (iblk m c 1 t) (iblk m c 2 t) (ix5 0 0 0 r e)
    = CMP (V m c main_v16) (V m c main_v19) (V m c main_v20) (((cfg0.win 3).blk t).view.emb (ix5 0 0 0 r e)) := by
  have ht := (idx t).2.2.2.2
  obtain ⟨b, hb⟩ : ∃ b : Fin 16, b.val = t.val / 4 := ⟨⟨t.val / 4, by omega⟩, rfl⟩
  obtain ⟨k, hk⟩ : ∃ k : Fin 2, k.val = t.val / 2 % 2 := ⟨⟨t.val / 2 % 2, by omega⟩, rfl⟩
  obtain ⟨g, hg⟩ : ∃ g : Fin 2, g.val = t.val % 2 := ⟨⟨t.val % 2, by omega⟩, rfl⟩
  rw [pay_at, o_at (CMP (V m c main_v16) (V m c main_v19) (V m c main_v20)) t b k g hb hk hg r e]
  simp only [p_at m c t b k g hb hk hg, w_at m c t k hk, e_at m c t]
  rfl

theorem point (c : Dev nD) (t : Fin cfg0.N) (y : S1x1x1x128x64.Idx) : k0_pay1 (F := Ideal) (iblk m c 0 t) (iblk m c 1 t) (iblk m c 2 t) y
    = CMP (V m c main_v16) (V m c main_v19) (V m c main_v20) (((cfg0.win 3).blk t).view.emb y) := by
  have h := point_at m c t
  generalize k0_pay1 (F := Ideal) (iblk m c 0 t) (iblk m c 1 t) (iblk m c 2 t) = A at h ⊢
  generalize CMP (V m c main_v16) (V m c main_v19) (V m c main_v20) = B at h ⊢
  idx_vars y
  obtain rfl : y0 = 0 := Subsingleton.elim _ _
  obtain rfl : y1 = 0 := Subsingleton.elim _ _
  obtain rfl : y2 = 0 := Subsingleton.elim _ _
  exact h y3 y4

theorem final (c : Dev nD) : (dats m 0 c).arrAt 3 (cfgs 0).N = CMP (V m c main_v16) (V m c main_v19) (V m c main_v20) := by
  refine (dats m 0 c).arrAt_eq_of_covers 3 _ (by decide +kernel) fun t _ y => ?_
  blk_simp
  rw [after0_3]; frame_out
  exact point m c t y

/-- The line after the region drops the last window, whose second half is no next piece. -/
theorem result_read (U : Valuation τ sig (Elt Ideal)) (Y : FVec Ideal S16x2x2x128x64 .f32) (hY : U (Proc.tc.devRef main_v21) = Y)
    (b : Fin 16) (k g : Fin 2) (n : Fin 127) (e : Fin 64) :
    StableHlo.after (hostOps1 (F := Ideal)) U (Proc.tc.devRef main_v22) (ix5 b k g n e) = Y (ix5 b k g ⟨n.val, by omega⟩ e) := by
  subst hY
  unfold_abbrev_sides
  after_results
  pointwise

theorem result (c : Dev nD) (b : Fin 16) (k g : Fin 2) (n : Fin 127) (e : Fin 64) :
    Pipeline.afterTail₀ cfgs (dats m) 0 (V0 m) [hostOps1] c main_v22 (ix5 b k g n e)
    = CMP (V m c main_v16) (V m c main_v19) (V m c main_v20) (ix5 b k g ⟨n.val, by omega⟩ e) := by
  rw [← final]
  unfold Pipeline.afterTail₀
  exact result_read _ _ (Pipeline.withArrays_arr spec0
    (by exact (by decide : ∀ v w, Pipeline.arrRef spec0 v = Pipeline.arrRef spec0 w → v = w)) c (V0 m c) _ 3) b k g n e

end Cert.CompressIdeal.Value

end
-- ==== Proof.Compress.lean ====
module

public import proofs.«01_k».proof.Defs
public import proofs.«01_k».proof.Proof.CmpRef
public import proofs.«01_k».proof.Proof.Below
public import proofs.«01_k».proof.Proof.CmpEntry
public import proofs.«01_k».proof.Proof.CmpFinal
public import proofs.«01_k».proof.Proof.Gen.Compress.Frame
public import proofs.«01_k».proof.Proof.Gen.CompressIdeal.Frame
public import proofs.«01_k».proof.Proof.Gen.CompressRefIdeal.Run
public import proofs.«01_k».proof.Proof.Gen.Pre_finite_maps
public import Idealize.ShloMosaic.Lib.Claim
public import Idealize.ShloMosaic.Lib.Pointwise
public import Idealize.ShloMosaic.Lib.StableHlo.RunRead
public import Idealize.ShloMosaic.Lib.Pipeline.ValueKit

@[expose] public section

/-! # Compressed keys and values: windows of rows, with position embeddings added, times weights -/

set_option maxRecDepth 16384

noncomputable section

open Idealize.ShloMosaic Idealize.ShloMosaic.TcCoe Idealize.SL.Sem
open Idealize.ShloMosaic.Pipeline (Dat)

namespace Cert.Proof

open Cert.Sticks

instance pre_finite_maps_facts : Cert.Pre_finite_maps.Facts := Cert.Pre_finite_maps.Gen.facts

theorem both {a b : BitVec 1} (h : a &&& b = 1#1) : a = 1#1 ∧ b = 1#1 := by
  revert h; revert a b; decide

/-- The precondition makes the weights and the position embeddings real numbers. -/
theorem finite_of_maps (X : FVec Ideal Cert.Pre_finite_maps.S16x2048x7960 .f32) (Wk Wv : FVec Ideal Cert.Pre_finite_maps.S2048x64 .f32) (Pe : FVec Ideal Cert.Pre_finite_maps.S32x64 .f32)
    (h : Cert.Pre_finite_maps.fn (F := Ideal) X Wk Wv Pe = fun _ => 1#1) (y : Fin 2048) (e : Fin 64) :
    Finite (Wk (ix2 y e)) ∧ Finite (Wv (ix2 y e)) ∧ Finite (Pe (ix2 ⟨y.val / 64, by omega⟩ ⟨y.val % 64, by omega⟩)) := by
  have e1 := congrFun h (ix2 y e)
  obtain ⟨e2, ep⟩ := both e1
  obtain ⟨ek, ev⟩ := both e2
  refine ⟨finite_of_below _ ek, finite_of_below _ ev, finite_of_below _ (Eq.trans ?_ ep)⟩
  symm
  pointwise
  rfl

theorem frame_compress : Cert.quiescent_Compress := fun m ρ _ => Cert.Compress.Gen.frame m ρ

theorem frame_compressIdeal : Cert.quiescent_CompressIdeal := fun m ρ _ => Cert.CompressIdeal.Gen.frame m ρ

theorem frame_compressIdeal_pre : Cert.quiescent_CompressIdeal_pre_finite_maps := fun m ρ _ => Cert.CompressIdeal.Gen.frame m ρ

theorem frame_compressRefIdeal : Cert.quiescent_CompressRefIdeal := fun m ρ _ =>
  (θ_run Cert.CompressRefIdeal.defs _ _).mono (fun r h => ⟨fun c => (h c).2, sem_eq_zero_of_no_sems (by decide) r.2⟩) (Cert.CompressRefIdeal.Value.run (F := Ideal) m ρ)

theorem frame_compressRefIdeal_pre : Cert.quiescent_CompressRefIdeal_pre_finite_maps := fun m ρ _ => frame_compressRefIdeal m ρ trivial

open Cert.CompressIdeal Cert.CompressIdeal.Gen Cert.CompressIdeal.Value in
/-- The kernel's result at an entry of a window that has a next piece: the window's rows with the position embeddings added, times the weights. -/
theorem compress_at (m : (ℓ : Loc nD τ sig) → Buf (Elt Ideal) ℓ) (c : Dev nD) (X : FVec Ideal S16x2048x7960 .f32) (Wk Wv : FVec Ideal S2048x64 .f32) (Pe : FVec Ideal S32x64 .f32)
    (hX : m ((c : Thread nD τ).loc main_arg0) = X) (hk : m ((c : Thread nD τ).loc main_arg1) = Wk) (hv : m ((c : Thread nD τ).loc main_arg2) = Wv) (hp : m ((c : Thread nD τ).loc main_arg3) = Pe)
    (hf : ∀ (y : Fin 2048) (e : Fin 64), Finite (Wk (ix2 y e)) ∧ Finite (Wv (ix2 y e)) ∧ Finite (Pe (ix2 ⟨y.val / 64, by omega⟩ ⟨y.val % 64, by omega⟩)))
    (b : Fin 16) (k g : Fin 2) (n : Fin 127) (e : Fin 64) :
    Pipeline.afterTail₀ cfgs (dats m) 0 (V0 m) [hostOps1] c main_v22 (ix5 b k g n e)
      = ∑ y : Fin 2048, (Cert.CompressRefIdeal.Value.ENTRY X b k g n y + Pe (ix2 ⟨y.val / 64, by omega⟩ ⟨y.val % 64, by omega⟩)) * (if k.val = 0 then Wk else Wv) (ix2 y e) := by
  rw [result]
  have hP := pieces_at m c
  have hW := weights_at m c
  have hE := places_at m c
  rw [hX] at hP
  rw [hk, hv] at hW
  rw [hp] at hE
  generalize V m c main_v16 = P at hP ⊢
  generalize V m c main_v19 = W at hW ⊢
  generalize V m c main_v20 = E at hE ⊢
  rw [Cert.Compressed.window (fun x => P (ix5 b k g ⟨n.val, by omega⟩ x)) (fun x => P (ix5 b k g ⟨(n.val + 1) % 128, Nat.mod_lt _ (by decide)⟩ x))
    (fun y => Pe (ix2 ⟨y.val / 64, by omega⟩ ⟨y.val % 64, by omega⟩)) (fun y => (if k.val = 0 then Wk else Wv) (ix2 y e))]
  · simp only [← hW, ← hE]
    rfl
  · exact fun y => (hf y e).2.2
  · intro y
    by_cases h : k.val = 0
    · rw [if_pos h]; exact (hf y e).1
    · rw [if_neg h]; exact (hf y e).2.1
  · intro x
    rw [hP]
    rfl
  · intro x
    rw [hP]
    unfold Cert.CompressRefIdeal.Value.ENTRY
    exact congrArg₂ (fun r q => X (ix3 b r q)) (Fin.ext (by dsimp only; omega)) (Fin.ext (by dsimp only; omega))

theorem algebraic_compress : Cert.algebraic_CompressIdeal_CompressRefIdeal_pre_finite_maps := by
  pair_intro
  · run_from Cert.CompressIdeal.Gen.run_main m g & Cert.CompressIdeal.Gen.unchanged m g
  · run_from Cert.CompressRefIdeal.Value.run m' g'
    symm
    funext j
    idx_vars j
    refine (compress_at m c _ _ _ _ rfl rfl rfl rfl (finite_of_maps _ _ _ _ (hpre c)) j0 j1 j2 j3 j4).trans ?_
    symm
    rw [(hagree c).2.2.2]
    exact Cert.CompressRefIdeal.Value.read _ _ _ _ j0 j1 j2 j3 j4

end Cert.Proof

end
-- ==== Proof.SbRef.lean ====
module

public import proofs.«01_k».proof.Proof.Gen.SbRefIdeal.Run
public import proofs.«01_k».proof.Proof.SbMath
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.SbRefIdeal.Value

open Cert.SbRefIdeal Cert.SbRefIdeal.Gen

open Cert.Sticks

/-- The window of a running sum from the right: all places before the last axis's are its first. -/
abbrev Wn : Shape := ⟨4, ![1, 1, 1, 2048]⟩

theorem wn_numel : Wn.numel = 2048 := by
  show ∏ a : Fin 4, (![1, 1, 1, 2048] : Fin 4 → Nat) a = 2048
  rw [Fin.prod_univ_four]; rfl

theorem wn_symm (n : Fin Wn.numel) : Wn.rowMajor.symm n = ix4 (0 : Fin 1) (0 : Fin 1) (0 : Fin 1) (n.cast wn_numel) :=
  (Wn.rowMajor.symm_apply_eq).2 (Fin.ext (by
    rw [Shape.rowMajor_val_four]
    show n.val = ((0 * 1 + 0) * 1 + 0) * 2048 + n.val
    omega))

/-- A running sum along the last axis from the right, at place `s`: the sum of the terms from `s` on. -/
theorem running_sum (x : FVec Ideal S16x8x2048x2048 .f32) (init : FVec Ideal S_ .f32)
    (h : S16x8x2048x2048.ReduceWindows (![1, 1, 1, 2048] : Fin 4 → Nat) ![1, 1, 1, 1] ![0, 0, 0, 0] ![0, 0, 0, 2047] S16x8x2048x2048) (hu : 0 < S_.numel)
    (hi : init (Shape.Idx.first hu) = 0) (b : Fin 16) (g : Fin 8) (t s : Fin 2048) :
    Host.reduceWindowAdd ![1, 1, 1, 2048] ![1, 1, 1, 1] ![0, 0, 0, 0] ![0, 0, 0, 2047] x init h hu (ix4 b g t s)
      = ∑ u ∈ Finset.Ico s.val 2048, extend (fun u => x (ix4 b g t u)) u := by
  rw [← window_sum _ s.isLt]
  unfold Host.reduceWindowAdd
  rw [Ideal.hostReduceWindowAdd_def, hi]
  unfold Ideal.hostReduceWindowAdd Host.reduceWindow
  rw [foldl_sum, zero_add]
  rw [← Fin.sum_univ_eq_sum_range (fun i => if s.val + i < 2048 then extend (fun u => x (ix4 b g t u)) (s.val + i) else 0) 2048,
    ← List.ofFn_eq_map, List.sum_ofFn]
  refine Fintype.sum_equiv (finCongr wn_numel) _ _ fun n => ?_
  have h0 : (Wn.rowMajor.symm n 0).val = 0 := by rw [wn_symm]; rfl
  have h1 : (Wn.rowMajor.symm n 1).val = 0 := by rw [wn_symm]; rfl
  have h2 : (Wn.rowMajor.symm n 2).val = 0 := by rw [wn_symm]; rfl
  have h3 : (Wn.rowMajor.symm n 3).val = n.val := by rw [wn_symm]; rfl
  have hn : (finCongr wn_numel n).val = n.val := rfl
  rw [hn]
  dsimp only
  split
  · next hin =>
    have e3 := hin 3
    change 0 ≤ s.val * 1 + (Wn.rowMajor.symm n 3).val ∧ s.val * 1 + (Wn.rowMajor.symm n 3).val - 0 < 2048 at e3
    rw [h3] at e3
    rw [if_pos (by omega), extend_lt _ (by omega)]
    refine congrArg x (funext fun a => Fin.ext ?_)
    match a with
    | ⟨0, _⟩ => show b.val * 1 + (Wn.rowMajor.symm n 0).val - 0 = b.val; rw [h0]; omega
    | ⟨1, _⟩ => show g.val * 1 + (Wn.rowMajor.symm n 1).val - 0 = g.val; rw [h1]; omega
    | ⟨2, _⟩ => show t.val * 1 + (Wn.rowMajor.symm n 2).val - 0 = t.val; rw [h2]; omega
    | ⟨3, _⟩ => show s.val * 1 + (Wn.rowMajor.symm n 3).val - 0 = s.val + n.val; rw [h3]; omega
  · next hin =>
    rw [if_neg fun hle => hin fun a => ?_]
    match a with
    | ⟨0, _⟩ => show 0 ≤ b.val * 1 + (Wn.rowMajor.symm n 0).val ∧ b.val * 1 + (Wn.rowMajor.symm n 0).val - 0 < 16; rw [h0]; omega
    | ⟨1, _⟩ => show 0 ≤ g.val * 1 + (Wn.rowMajor.symm n 1).val ∧ g.val * 1 + (Wn.rowMajor.symm n 1).val - 0 < 8; rw [h1]; omega
    | ⟨2, _⟩ => show 0 ≤ t.val * 1 + (Wn.rowMajor.symm n 2).val ∧ t.val * 1 + (Wn.rowMajor.symm n 2).val - 0 < 2048; rw [h2]; omega
    | ⟨3, _⟩ => show 0 ≤ s.val * 1 + (Wn.rowMajor.symm n 3).val ∧ s.val * 1 + (Wn.rowMajor.symm n 3).val - 0 < 2048; rw [h3]; omega

/-- Head `g`'s logit of the query at `t` for the key at `s`. -/
def LOGIT (X : FVec Ideal S16x2048x7960 .f32) (b : Fin 16) (g : Fin 8) (t s : Fin 2048) : EReal :=
  (∑ x : Fin 64, X (ix3 b t ⟨g.val * 64 + x.val, by omega⟩) * X (ix3 b s ⟨512 + (g.val * 64 + x.val), by omega⟩)) * Ideal.ofBits .f32 0x3E000000#32

theorem read (m : (ℓ : Loc nD τ sig) → Buf (Elt Ideal) ℓ) (c : Dev nD) (X : FVec Ideal S16x2048x7960 .f32) (hX : m ((c.tc : Thread nD τ).loc main_arg0) = X)
    (hf : ∀ i, Finite (X i)) (b : Fin 16) (t : Fin 2048) (e : Fin 512) :
   res_main_v30 m c (ix3 b t e) = mixed (extend (LOGIT X b ⟨e.val / 64, by omega⟩ t)) (extend fun s => X (ix3 b s ⟨1024 + e.val, by omega⟩)) t.val 2048 := by
  unfold res_main_v30
  rw [hX]
  pointwise
  have hl : ∀ s : Fin 2048, (∑ x : Fin 64, X (ix3 b t ⟨e.val / 64 * 64 + x.val, by omega⟩) * X (ix3 b s ⟨512 + (e.val / 64 * 64 + x.val), by omega⟩))
      * Ideal.ofBits .f32 0x3E000000#32 = LOGIT X b ⟨e.val / 64, by omega⟩ t s := fun _ => rfl
  have hw : Finite (Ideal.ofBits .f32 0x3E000000#32) := ⟨_, eighth⟩
  have hL : ∀ s, Finite (LOGIT X b ⟨e.val / 64, by omega⟩ t s) := fun s => dot_finite _ _ hw (fun _ => hf _) fun _ => hf _
  generalize LOGIT X b ⟨e.val / 64, _⟩ t = L at hl hL ⊢
  have hz : (id (constant (F := Ideal) S_ FTy.f32 0#32) ix0 : EReal) = 0 := by exact Ideal.ofBits_zero_f32
  have ha : ∀ z : EReal, FloatOps.absf (F := Ideal) (φ := .f32) z = max z (-z) := fun _ => rfl
  simp only [running_sum _ _ _ _ (show broadcastInDim S_ ![] bcast_S_S_ (constant (F := Ideal) S_ FTy.f32 0#32) (Shape.Idx.first h_S_) = 0 by pointwise)]
  pointwise
  simp only [hl, hz, ne_eq, not_true_eq_false, if_false, choose_lt (Fin.isLt _) (Fin.isLt _), ha, lsp_eq (hL _), lsn_eq (hL _)]
  refine Eq.trans ?_ (mixed_full _ _ _ fun s hs => by rw [extend_lt _ hs]; exact hL _)
  refine Finset.sum_congr (M := EReal) rfl fun s _ => ?_
  have hk : ∀ u : Fin 2048, (if u.val < t.val then lsn (L u) else 0) = kept (extend L) t.val u.val := fun u => by unfold kept; rw [extend_val]
  have hs : ∑ u ∈ Finset.Ico s.val 2048, extend (fun u => if u.val < t.val then lsn (L u) else 0) u = ∑ u ∈ Finset.Ico s.val 2048, kept (extend L) t.val u :=
    Finset.sum_congr rfl fun u hu => by
      rw [extend_lt _ (Finset.mem_Ico.1 hu).2]; exact hk ⟨u, _⟩
  rw [hs, hk, extend_val, extend_val]

end Cert.SbRefIdeal.Value
end
-- ==== Proof.SbBlock.lean ====
module

public import proofs.«01_k».proof.Proof.SbMath
public import proofs.«01_k».proof.Proof.Gen.SbIdeal.Frame
public import proofs.«01_k».proof.Proof.Gen.SbIdeal.Value
public import Idealize.ShloMosaic.Lib.Claim
public import Idealize.ShloMosaic.Lib.Pointwise
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SbIdeal.Value

open Cert.SbIdeal Cert.SbIdeal.Gen Cert.Sticks

variable (m : (ℓ : Loc nD τ sig) → Buf (Elt Ideal) ℓ)

/-- A block's logits: every query of the block against every key of a block of keys. -/
def LB (Q K : Vec Ideal S1x128x64 .f32) (r c : Fin 128) : EReal :=
  (∑ x : Fin 64, Q (ix3 0 r x) * K (ix3 0 c x)) * Ideal.ofBits .f32 0x3E000000#32

theorem absf_eq (z : EReal) : FloatOps.absf (F := Ideal) (φ := .f32) z = max z (-z) := rfl

/-- The triangle: one where the row lies below the column. -/
theorem triangle (r c : Fin 128) : k0_pay25 (F := Ideal) (ix2 r c) = if c.val < r.val then 1 else 0 := by
  pointwise [k0_pay25]
  rw [WordCmp.cmpi_sgt_ofNat (by omega) (by omega)]
  by_cases h : c.val < r.val
  · rw [decide_eq_true h, if_pos h]
    show ((((BitVec.ofBool true).setWidth 32).toInt : ℝ) : EReal) = 1
    rw [show ((BitVec.ofBool true).setWidth 32).toInt = 1 by decide]
    norm_num
  · rw [decide_eq_false h, if_neg h]
    show ((((BitVec.ofBool false).setWidth 32).toInt : ℝ) : EReal) = 0
    rw [show ((BitVec.ofBool false).setWidth 32).toInt = 0 by decide]
    norm_num

theorem mask (r c : Fin 128) (a b : EReal) : Scalar.select (k0_pay24 (ix2 r c)) a b = if c.val < r.val then a else b := by
  pointwise [k0_pay24]
  exact choose_lt (by omega) (by omega) a b

theorem step_cr (Q K : Vec Ideal S1x128x64 .f32) (cr : FVec Ideal S128x1 .f32) (r : Fin 128) :
    k0_pay36 cr (k0_pay8 (k0_pay26 Q) K) (ix2 r 0) = cr (ix2 r 0) + ∑ c, lsn (LB Q K r c) := by
  pointwise [k0_pay36, k0_pay8, k0_pay6, k0_pay5, k0_pay4, k0_pay26]
  rfl

theorem step_ac (Q K V : Vec Ideal S1x128x64 .f32) (cr : FVec Ideal S128x1 .f32) (ac : FVec Ideal S128x64 .f32) (r : Fin 128) (d : Fin 64) :
    k0_pay7 k0_pay25 (k0_pay26 Q) cr ac K V (ix2 r d) = ac (ix2 r d)
      + ∑ c : Fin 128, Ideal.exp (lsp (LB Q K r c) + (cr (ix2 r 0) + (∑ x : Fin 128, lsn (LB Q K r x) * (if c.val < x.val then 1 else 0)
          + ∑ x : Fin 128, (lsn (LB Q K r x) - lsn (LB Q K r x)) * (if c.val < x.val then 1 else 0)))) * V (ix3 0 c d) := by
  have h := triangle
  generalize k0_pay25 (F := Ideal) = U at h ⊢
  pointwise [k0_pay7, k0_pay6, k0_pay5, k0_pay4, k0_pay26]
  simp only [h]
  rfl

theorem lsp_at (Q K : Vec Ideal S1x128x64 .f32) (r c : Fin 128) : k0_pay32 Q K (ix2 r c) = lsp (LB Q K r c) := by
  pointwise [k0_pay32, k0_pay30, k0_pay31, k0_pay26]
  rfl

theorem lsn_at (Q K : Vec Ideal S1x128x64 .f32) (r c : Fin 128) : k0_pay33 Q K (ix2 r c) = if c.val < r.val then lsn (LB Q K r c) else 0 := by
  pointwise [k0_pay33, k0_pay30, k0_pay31, k0_pay26]
  exact mask r c _ _

theorem diag_cr (Q K : Vec Ideal S1x128x64 .f32) (r : Fin 128) :
    k0_pay35 k0_pay28 (k0_pay33 Q K) (ix2 r 0) = ∑ c : Fin 128, if c.val < r.val then lsn (LB Q K r c) else 0 := by
  have h := lsn_at Q K
  generalize k0_pay33 Q K = B at h ⊢
  pointwise [k0_pay35, k0_pay28]
  simp only [h]

theorem diag_ac (Q K V : Vec Ideal S1x128x64 .f32) (r : Fin 128) (d : Fin 64) :
    k0_pay34 k0_pay24 k0_pay25 (k0_pay27 V) k0_pay28 k0_pay29 (k0_pay32 Q K) (k0_pay33 Q K) (ix2 r d)
      = ∑ c : Fin 128, if c.val < r.val then Ideal.exp (lsp (LB Q K r c) + (∑ x : Fin 128, (if x.val < r.val then lsn (LB Q K r x) else 0) * (if c.val < x.val then 1 else 0)
          + ∑ x : Fin 128, ((if x.val < r.val then lsn (LB Q K r x) else 0) - (if x.val < r.val then lsn (LB Q K r x) else 0)) * (if c.val < x.val then 1 else 0)))
            * V (ix3 0 c d) else 0 := by
  have h := triangle
  have hn := lsn_at Q K
  have hp := lsp_at Q K
  have hm := mask
  generalize k0_pay25 (F := Ideal) = U at h ⊢
  generalize k0_pay33 Q K = B at hn ⊢
  generalize k0_pay32 Q K = A at hp ⊢
  generalize k0_pay24 = M at hm ⊢
  pointwise [k0_pay34, k0_pay27, k0_pay28, k0_pay29]
  simp only [h, hn, hp, hm]

theorem trips1 : ∀ i : grid0.Coords, (k0_t1_loop i).trips = (i 2).val ∧ (k0_t2_loop i).trips = 0 ∧ (k0_t3_loop i).trips = (i 2).val ∧ (k0_t4_loop i).trips = 0 := by
  decide +kernel

theorem off1 : ∀ i : grid0.Coords, k0_off1 i = ![0, (i 2).val * 128, 0] ∧ k0_off4 i = ![0, (i 2).val * 128, 64] := by decide +kernel

theorem off2 : ∀ (i : grid0.Coords) (k : Fin (k0_t1_loop i).trips), k0_off2 i k = ![0, ((i 2).val - 1 - k.val) * 128, 0] := by decide +kernel

theorem off5 : ∀ (i : grid0.Coords) (k : Fin (k0_t3_loop i).trips), k0_off5 i k = ![0, ((i 2).val - 1 - k.val) * 128, 64] := by decide +kernel

theorem ld_at (x : Vec Ideal S1x2048x128 .f32) (off : Fin 3 → ℕ) (h) (B l : ℕ) (hB : B + 128 ≤ 2048) (hl : l + 64 ≤ 128) (e : off = ![0, B, l]) (c : Fin 128) (d : Fin 64) :
    View.ld x (Rect.unit off ![1, 128, 64] h) (ix3 0 c d) = x (ix3 0 ⟨B + c.val, by omega⟩ ⟨l + d.val, by omega⟩) := by
  subst e
  pointwise

end Cert.SbIdeal.Value
end
-- ==== Proof.SbHead.lean ====
module

public import proofs.«01_k».proof.Proof.SbBlock

@[expose] public section

set_option maxRecDepth 16384

noncomputable section

open Idealize.ShloMosaic Idealize.ShloMosaic.TcCoe Idealize.SL.Sem

namespace Cert.SbIdeal.Value

open Cert.SbIdeal Cert.SbIdeal.Gen Cert.Sticks

/-- One row's logits over all the keys, of one head: the head is the sixty-four lanes from `l` on. -/
def Z (x0 : Vec Ideal S1x128x128 .f32) (x1 : Vec Ideal S1x2048x128 .f32) (l : Fin 65) (r : Fin 128) : ℕ → EReal :=
  extend fun s => (∑ x : Fin 64, x0 (ix3 0 r ⟨l.val + x.val, by omega⟩) * x1 (ix3 0 s ⟨l.val + x.val, by omega⟩)) * Ideal.ofBits .f32 0x3E000000#32

/-- One lane of the values over all the keys. -/
def W (x2 : Vec Ideal S1x2048x128 .f32) (l : Fin 65) (d : Fin 64) : ℕ → EReal :=
  extend fun s => x2 (ix3 0 s ⟨l.val + d.val, by omega⟩)

/-- What the loop holds once the keys from `B` on are counted: the sum of the kept terms and the weighted values. -/
structure Held (z : Fin 128 → ℕ → EReal) (v : Fin 64 → ℕ → EReal) (i B : ℕ) (st : FVec Ideal S128x1 .f32 × FVec Ideal S128x64 .f32) : Prop where
  cr : ∀ r, st.1 (ix2 r 0) = ∑ u ∈ Finset.Ico B (i * 128 + 128), kept (z r) (i * 128 + r.val) u
  ac : ∀ r d, st.2 (ix2 r d) = ∑ s ∈ Finset.Ico B (i * 128 + 128), weight (z r) (i * 128 + r.val) (i * 128 + 128) s * v d s

/-- The lower part of a split that loses nothing adds nothing. -/
theorem low_part (f g : Fin 128 → EReal) (h : ∀ x, Finite (f x)) : ∑ x, (f x - f x) * g x = 0 := by
  refine Finset.sum_eq_zero fun x _ => ?_
  rw [sub_self (h x), zero_mul]

theorem step_held (z : Fin 128 → ℕ → EReal) (v : Fin 64 → ℕ → EReal) (i B : ℕ) (st) (Q K V : Vec Ideal S1x128x64 .f32) (hB : B + 128 ≤ i * 128) (hi : i < 16)
    (hz : ∀ r s, s < 2048 → Finite (z r s))
    (hK : ∀ r c : Fin 128, LB Q K r c = z r (B + c.val)) (hV : ∀ (c : Fin 128) (d : Fin 64), V (ix3 0 c d) = v d (B + c.val)) (h : Held z v i (B + 128) st) :
    Held z v i B (k0_pay36 st.1 (k0_pay8 (k0_pay26 Q) K), k0_pay7 k0_pay25 (k0_pay26 Q) st.1 st.2 K V) := by
  have hk : ∀ r c : Fin 128, lsn (LB Q K r c) = kept (z r) (i * 128 + r.val) (B + c.val) := fun r c => by
    rw [hK, kept, if_pos (by omega)]
  have hf : ∀ r c : Fin 128, Finite (lsn (LB Q K r c)) := fun r c => by
    rw [hK]; exact lsn_finite (hz _ _ (by omega))
  refine ⟨fun r => ?_, fun r d => ?_⟩
  · refine (step_cr Q K st.1 r).trans ?_
    rw [h.cr r, ← block_step _ (show B + 128 ≤ i * 128 + 128 by omega)]
    exact congrArg _ (Finset.sum_congr rfl fun c _ => hk r c)
  · refine (step_ac Q K V st.1 st.2 r d).trans ?_
    rw [h.ac r d, ← block_step _ (show B + 128 ≤ i * 128 + 128 by omega)]
    refine congrArg _ (Finset.sum_congr rfl fun c _ => ?_)
    rw [low_part _ _ (hf r), add_zero, h.cr r, hV, hK, weight, if_pos (by omega)]
    simp only [hk]
    rw [after_sum, after_split _ c.isLt (by omega)]

theorem diag_held (z : Fin 128 → ℕ → EReal) (v : Fin 64 → ℕ → EReal) (i : ℕ) (Q K V : Vec Ideal S1x128x64 .f32) (hi : i < 16)
    (hz : ∀ r s, s < 2048 → Finite (z r s))
    (hK : ∀ r c : Fin 128, LB Q K r c = z r (i * 128 + c.val)) (hV : ∀ (c : Fin 128) (d : Fin 64), V (ix3 0 c d) = v d (i * 128 + c.val)) :
    Held z v i (i * 128) (k0_pay35 k0_pay28 (k0_pay33 Q K), k0_pay34 k0_pay24 k0_pay25 (k0_pay27 V) k0_pay28 k0_pay29 (k0_pay32 Q K) (k0_pay33 Q K)) := by
  have hk : ∀ r c : Fin 128, (if c.val < r.val then lsn (LB Q K r c) else 0) = kept (z r) (i * 128 + r.val) (i * 128 + c.val) := fun r c => by
    rw [hK, kept]; exact if_congr (by omega) rfl rfl
  have hf : ∀ r c : Fin 128, Finite (kept (z r) (i * 128 + r.val) (i * 128 + c.val)) := fun r c => kept_finite (hz _ _ (by omega))
  refine ⟨fun r => ?_, fun r d => ?_⟩
  · refine (diag_cr Q K r).trans ?_
    rw [← block_sum]
    exact Finset.sum_congr rfl fun c _ => hk r c
  · refine (diag_ac Q K V r d).trans ?_
    simp only [hk]
    rw [← block_sum]
    refine Finset.sum_congr rfl fun c _ => ?_
    rw [low_part _ _ (hf r), weight, add_zero, after_sum, hK, hV]
    by_cases h : c.val < r.val
    · rw [if_pos h, if_pos (by omega)]
    · rw [if_neg h, if_neg (by omega), zero_mul]

/-- The loop over the earlier blocks of keys, from the last to the first. -/
theorem loop_held (z : Fin 128 → ℕ → EReal) (v : Fin 64 → ℕ → EReal) (i : ℕ) (hi : i < 16) (hz : ∀ r s, s < 2048 → Finite (z r s)) (st : ℕ → FVec Ideal S128x1 .f32 × FVec Ideal S128x64 .f32)
    (Q : Vec Ideal S1x128x64 .f32)
    (h0 : Held z v i (i * 128) (st 0))
    (hs : ∀ k, k < i → ∃ K V : Vec Ideal S1x128x64 .f32,
      st (k + 1) = (k0_pay36 (st k).1 (k0_pay8 (k0_pay26 Q) K), k0_pay7 k0_pay25 (k0_pay26 Q) (st k).1 (st k).2 K V)
      ∧ (∀ r c : Fin 128, LB Q K r c = z r ((i - 1 - k) * 128 + c.val)) ∧ ∀ (c : Fin 128) (d : Fin 64), V (ix3 0 c d) = v d ((i - 1 - k) * 128 + c.val))
    (n : ℕ) (hn : n ≤ i) : Held z v i ((i - n) * 128) (st n) := by
  induction n with
  | zero => exact h0
  | succ n ih =>
    obtain ⟨K, V, e, hK, hV⟩ := hs n (by omega)
    have h := ih (by omega)
    rw [e, show i - (n + 1) = i - 1 - n by omega]
    refine step_held z v i _ (st n) Q K V (by omega) hi hz hK hV ?_
    rw [show (i - 1 - n) * 128 + 128 = (i - n) * 128 by omega]
    exact h

/-- The loop's last state is the mixture of the values by their weights. -/
theorem loop_mixed (z : Fin 128 → ℕ → EReal) (v : Fin 64 → ℕ → EReal) (i : ℕ) (hi : i < 16) (st) (h : Held z v i ((i - i) * 128) st) (r d) :
    st.2 (ix2 r d) = mixed (z r) (v d) (i * 128 + r.val) 2048 := by
  rw [mixed_eq _ _ (show i * 128 + r.val ≤ i * 128 + 128 by omega) (show i * 128 + 128 ≤ 2048 by omega), h.ac r d, Nat.sub_self, Nat.zero_mul, mixed,
    ← Finset.range_eq_Ico]

theorem Z_finite (x0 : Vec Ideal S1x128x128 .f32) (x1 : Vec Ideal S1x2048x128 .f32) (l : Fin 65) (h0 : ∀ y, Finite (x0 y)) (h1 : ∀ y, Finite (x1 y)) (r s) (hs : s < 2048) : Finite (Z x0 x1 l r s) := by
  rw [Z, extend_lt _ hs]
  exact dot_finite _ _ ⟨_, eighth⟩ (fun _ => h0 _) (fun _ => h1 _)

theorem LB_at (x0 : Vec Ideal S1x128x128 .f32) (x1 : Vec Ideal S1x2048x128 .f32) (l : Fin 65) (Q K : Vec Ideal S1x128x64 .f32) (B : ℕ) (hB : B + 128 ≤ 2048)
    (hQ : ∀ (r : Fin 128) (x : Fin 64), Q (ix3 0 r x) = x0 (ix3 0 r ⟨l.val + x.val, by omega⟩))
    (hK : ∀ (r : Fin 128) (x : Fin 64), K (ix3 0 r x) = x1 (ix3 0 ⟨B + r.val, by omega⟩ ⟨l.val + x.val, by omega⟩)) (r c : Fin 128) :
    LB Q K r c = Z x0 x1 l r (B + c.val) := by
  rw [Z, extend_lt _ (show B + c.val < 2048 by omega), LB]
  simp only [hQ, hK]

theorem W_at (x2 : Vec Ideal S1x2048x128 .f32) (l : Fin 65) (V : Vec Ideal S1x128x64 .f32) (B : ℕ) (hB : B + 128 ≤ 2048)
    (hV : ∀ (r : Fin 128) (x : Fin 64), V (ix3 0 r x) = x2 (ix3 0 ⟨B + r.val, by omega⟩ ⟨l.val + x.val, by omega⟩)) (c : Fin 128) (d : Fin 64) :
    V (ix3 0 c d) = W x2 l d (B + c.val) := by
  rw [W, extend_lt _ (show B + c.val < 2048 by omega), hV]

end Cert.SbIdeal.Value
end
-- ==== Proof.SbLoop.lean ====
module

public import proofs.«01_k».proof.Proof.SbHead

@[expose] public section

set_option maxRecDepth 16384

noncomputable section

open Idealize.ShloMosaic Idealize.ShloMosaic.TcCoe Idealize.SL.Sem

namespace Cert.SbIdeal.Value

open Cert.SbIdeal Cert.SbIdeal.Gen Cert.Sticks

/-- One trip of the loop over the earlier blocks of keys. -/
theorem step1 (𝒱 : Variants) (c : Dev nD) (bd : Option 𝒱.V) (i : grid0.Coords) (arg3 : Memref sig .tc .vmem S1x128x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x128 .f32) (harg6 : arg6.IsWhole) (arg2 : BitVec 32) (v2 : IVec S128x128 1) (v6 : FVec Ideal S128x128 .bf16) (v9 : FVec Ideal S128x64 .bf16) (v19 : FVec Ideal S128x64 .bf16) (v20 : FVec Ideal S128x1 .f32) (v21 : FVec Ideal S128x64 .f32) (v32 : FVec Ideal S128x128 .f32) (v39 : FVec Ideal S128x128 .f32) (x1 x2 : Vec Ideal S1x2048x128 .f32) (k : Fin (k0_t1_loop i).trips) (acc : FVec Ideal S128x1 .f32 × FVec Ideal S128x64 .f32) :
    tripR_k0_t1 (F := Ideal) 𝒱 c bd i arg3 harg3 arg4 harg4 arg5 harg5 arg6 harg6 arg2 v2 v6 v9 v19 v20 v21 v32 v39 (harg4.unread x1) (harg5.unread x2) k acc
      = (k0_pay36 acc.1 (k0_pay8 v9 (View.ld x1 (Rect.unit (k0_off2 i k) ![1, 128, 64] (k0_off2_inb i k)))),
        k0_pay7 v6 v9 acc.1 acc.2 (View.ld x1 (Rect.unit (k0_off2 i k) ![1, 128, 64] (k0_off2_inb i k))) (View.ld x2 (Rect.unit (k0_off2 i k) ![1, 128, 64] (k0_off2_inb i k)))) := by
  unfold tripR_k0_t1 trip_k0_t1
  dsimp only [trip_k0_t1.sl.r, trip_k0_t1.sl.r_1]
  frame_out
  try rfl

/-- One trip of the loop over the earlier blocks of keys. -/
theorem step3 (𝒱 : Variants) (c : Dev nD) (bd : Option 𝒱.V) (i : grid0.Coords) (arg3 : Memref sig .tc .vmem S1x128x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x128 .f32) (harg6 : arg6.IsWhole) (arg2 : BitVec 32) (v6 : FVec Ideal S128x128 .bf16) (v9 : FVec Ideal S128x64 .bf16) (w : BitVec 32) (x1 x2 : Vec Ideal S1x2048x128 .f32) (k : Fin (k0_t3_loop i).trips) (acc : FVec Ideal S128x1 .f32 × FVec Ideal S128x64 .f32) :
    tripR_k0_t3 (F := Ideal) 𝒱 c bd i arg3 harg3 arg4 harg4 arg5 harg5 arg6 harg6 arg2 v6 v9 w (harg4.unread x1) (harg5.unread x2) k acc
      = (k0_pay36 acc.1 (k0_pay8 v9 (View.ld x1 (Rect.unit (k0_off5 i k) ![1, 128, 64] (k0_off5_inb i k)))),
        k0_pay7 v6 v9 acc.1 acc.2 (View.ld x1 (Rect.unit (k0_off5 i k) ![1, 128, 64] (k0_off5_inb i k))) (View.ld x2 (Rect.unit (k0_off5 i k) ![1, 128, 64] (k0_off5_inb i k)))) := by
  unfold tripR_k0_t3 trip_k0_t3
  dsimp only [trip_k0_t3.sl.r, trip_k0_t3.sl.r_1]
  frame_out
  try rfl

/-- A head's loop, from the diagonal block's state on, leaves the mixture of the values. -/
theorem head1 (𝒱 : Variants) (c : Dev nD) (bd : Option 𝒱.V) (i : grid0.Coords) (arg3 : Memref sig .tc .vmem S1x128x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x128 .f32) (harg6 : arg6.IsWhole) (arg2 : BitVec 32) (v2 : IVec S128x128 1) (v19 : FVec Ideal S128x64 .bf16) (v20 : FVec Ideal S128x1 .f32) (v21 : FVec Ideal S128x64 .f32) (v32 : FVec Ideal S128x128 .f32) (v39 : FVec Ideal S128x128 .f32) (x0 : Vec Ideal S1x128x128 .f32) (x1 x2 : Vec Ideal S1x2048x128 .f32) (Q K V : Vec Ideal S1x128x64 .f32)
    (h0 : ∀ y, Finite (x0 y)) (h1 : ∀ y, Finite (x1 y))
    (hQ : ∀ (r : Fin 128) (x : Fin 64), Q (ix3 0 r x) = x0 (ix3 0 r ⟨0 + x.val, by omega⟩))
    (hK : ∀ (r : Fin 128) (x : Fin 64), K (ix3 0 r x) = x1 (ix3 0 ⟨(i 2).val * 128 + r.val, by have := (i 2).isLt; change _ < 16 at this; omega⟩ ⟨0 + x.val, by omega⟩))
    (hV : ∀ (r : Fin 128) (x : Fin 64), V (ix3 0 r x) = x2 (ix3 0 ⟨(i 2).val * 128 + r.val, by have := (i 2).isLt; change _ < 16 at this; omega⟩ ⟨0 + x.val, by omega⟩))
    (r : Fin 128) (d : Fin 64) :
    (st_k0_t1 (F := Ideal) 𝒱 c bd i arg3 harg3 arg4 harg4 arg5 harg5 arg6 harg6 arg2 v2 k0_pay25 (k0_pay26 Q) v19 v20 v21 v32 v39 (harg4.unread x1) (harg5.unread x2)
        (k0_pay35 k0_pay28 (k0_pay33 Q K), k0_pay34 k0_pay24 k0_pay25 (k0_pay27 V) k0_pay28 k0_pay29 (k0_pay32 Q K) (k0_pay33 Q K)) (k0_t1_loop i).trips).2 (ix2 r d)
      = mixed (Z x0 x1 ⟨0, by omega⟩ r) (W x2 ⟨0, by omega⟩ d) ((i 2).val * 128 + r.val) 2048 := by
  have hi : (i 2).val < 16 := (i 2).isLt
  have ht := (trips1 i).1
  have hz : ∀ r s, s < 2048 → Finite (Z x0 x1 ⟨0, by omega⟩ r s) := fun r s hs => Z_finite x0 x1 _ h0 h1 r s hs
  rw [ht]
  refine loop_mixed _ _ _ hi _ (loop_held _ _ _ hi hz (fun n => st_k0_t1 (F := Ideal) 𝒱 c bd i arg3 harg3 arg4 harg4 arg5 harg5 arg6 harg6 arg2 v2 k0_pay25 (k0_pay26 Q) v19 v20 v21 v32 v39 (harg4.unread x1) (harg5.unread x2)
        (k0_pay35 k0_pay28 (k0_pay33 Q K), k0_pay34 k0_pay24 k0_pay25 (k0_pay27 V) k0_pay28 k0_pay29 (k0_pay32 Q K) (k0_pay33 Q K)) n) Q ?_ (fun k hk => ?_) _ le_rfl) r d
  · exact diag_held _ _ _ Q K V hi hz (LB_at x0 x1 _ Q K _ (by omega) hQ hK) (W_at x2 _ V _ (by omega) hV)
  · refine ⟨_, _, (st_k0_t1_succ (F := Ideal) 𝒱 c bd i arg3 harg3 arg4 harg4 arg5 harg5 arg6 harg6 arg2 v2 k0_pay25 (k0_pay26 Q) v19 v20 v21 v32 v39 (harg4.unread x1) (harg5.unread x2) _ ⟨k, ht ▸ hk⟩).trans (step1 𝒱 c bd i arg3 harg3 arg4 harg4 arg5 harg5 arg6 harg6 arg2 v2 k0_pay25 (k0_pay26 Q) v19 v20 v21 v32 v39 x1 x2 ⟨k, ht ▸ hk⟩ _), ?_, ?_⟩
    · exact LB_at x0 x1 ⟨0, by omega⟩ Q _ (((i 2).val - 1 - k) * 128) (by omega) hQ (fun r x => ld_at x1 _ _ _ 0 (by omega) (by omega) (off2 i ⟨k, ht ▸ hk⟩) r x)
    · exact W_at x2 ⟨0, by omega⟩ _ (((i 2).val - 1 - k) * 128) (by omega) (fun r x => ld_at x2 _ _ _ 0 (by omega) (by omega) (off2 i ⟨k, ht ▸ hk⟩) r x)

/-- A head's loop, from the diagonal block's state on, leaves the mixture of the values. -/
theorem head3 (𝒱 : Variants) (c : Dev nD) (bd : Option 𝒱.V) (i : grid0.Coords) (arg3 : Memref sig .tc .vmem S1x128x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x128 .f32) (harg6 : arg6.IsWhole) (arg2 : BitVec 32) (w : BitVec 32) (x0 : Vec Ideal S1x128x128 .f32) (x1 x2 : Vec Ideal S1x2048x128 .f32) (Q K V : Vec Ideal S1x128x64 .f32)
    (h0 : ∀ y, Finite (x0 y)) (h1 : ∀ y, Finite (x1 y))
    (hQ : ∀ (r : Fin 128) (x : Fin 64), Q (ix3 0 r x) = x0 (ix3 0 r ⟨64 + x.val, by omega⟩))
    (hK : ∀ (r : Fin 128) (x : Fin 64), K (ix3 0 r x) = x1 (ix3 0 ⟨(i 2).val * 128 + r.val, by have := (i 2).isLt; change _ < 16 at this; omega⟩ ⟨64 + x.val, by omega⟩))
    (hV : ∀ (r : Fin 128) (x : Fin 64), V (ix3 0 r x) = x2 (ix3 0 ⟨(i 2).val * 128 + r.val, by have := (i 2).isLt; change _ < 16 at this; omega⟩ ⟨64 + x.val, by omega⟩))
    (r : Fin 128) (d : Fin 64) :
    (st_k0_t3 (F := Ideal) 𝒱 c bd i arg3 harg3 arg4 harg4 arg5 harg5 arg6 harg6 arg2 k0_pay25 (k0_pay26 Q) w (harg4.unread x1) (harg5.unread x2)
        (k0_pay35 k0_pay28 (k0_pay33 Q K), k0_pay34 k0_pay24 k0_pay25 (k0_pay27 V) k0_pay28 k0_pay29 (k0_pay32 Q K) (k0_pay33 Q K)) (k0_t3_loop i).trips).2 (ix2 r d)
      = mixed (Z x0 x1 ⟨64, by omega⟩ r) (W x2 ⟨64, by omega⟩ d) ((i 2).val * 128 + r.val) 2048 := by
  have hi : (i 2).val < 16 := (i 2).isLt
  have ht := (trips1 i).2.2.1
  have hz : ∀ r s, s < 2048 → Finite (Z x0 x1 ⟨64, by omega⟩ r s) := fun r s hs => Z_finite x0 x1 _ h0 h1 r s hs
  rw [ht]
  refine loop_mixed _ _ _ hi _ (loop_held _ _ _ hi hz (fun n => st_k0_t3 (F := Ideal) 𝒱 c bd i arg3 harg3 arg4 harg4 arg5 harg5 arg6 harg6 arg2 k0_pay25 (k0_pay26 Q) w (harg4.unread x1) (harg5.unread x2)
        (k0_pay35 k0_pay28 (k0_pay33 Q K), k0_pay34 k0_pay24 k0_pay25 (k0_pay27 V) k0_pay28 k0_pay29 (k0_pay32 Q K) (k0_pay33 Q K)) n) Q ?_ (fun k hk => ?_) _ le_rfl) r d
  · exact diag_held _ _ _ Q K V hi hz (LB_at x0 x1 _ Q K _ (by omega) hQ hK) (W_at x2 _ V _ (by omega) hV)
  · refine ⟨_, _, (st_k0_t3_succ (F := Ideal) 𝒱 c bd i arg3 harg3 arg4 harg4 arg5 harg5 arg6 harg6 arg2 k0_pay25 (k0_pay26 Q) w (harg4.unread x1) (harg5.unread x2) _ ⟨k, ht ▸ hk⟩).trans (step3 𝒱 c bd i arg3 harg3 arg4 harg4 arg5 harg5 arg6 harg6 arg2 k0_pay25 (k0_pay26 Q) w x1 x2 ⟨k, ht ▸ hk⟩ _), ?_, ?_⟩
    · exact LB_at x0 x1 ⟨64, by omega⟩ Q _ (((i 2).val - 1 - k) * 128) (by omega) hQ (fun r x => ld_at x1 _ _ _ 64 (by omega) (by omega) (off5 i ⟨k, ht ▸ hk⟩) r x)
    · exact W_at x2 ⟨64, by omega⟩ _ (((i 2).val - 1 - k) * 128) (by omega) (fun r x => ld_at x2 _ _ _ 64 (by omega) (by omega) (off5 i ⟨k, ht ▸ hk⟩) r x)

/-- The remainder loop has no trips. -/
theorem rest2 (𝒱 : Variants) (c : Dev nD) (bd : Option 𝒱.V) (i : grid0.Coords) (arg3 : Memref sig .tc .vmem S1x128x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x128 .f32) (harg6 : arg6.IsWhole) (arg2 : BitVec 32) (v2 : IVec S128x128 1) (v6 : FVec Ideal S128x128 .bf16) (v9 : FVec Ideal S128x64 .bf16) (v19 : FVec Ideal S128x64 .bf16) (v20 : FVec Ideal S128x1 .f32) (v21 : FVec Ideal S128x64 .f32) (v32 : FVec Ideal S128x128 .f32) (v39 : FVec Ideal S128x128 .f32) (w : BitVec 32) (X4 : BufTy.Contents (Elt Ideal) arg4.view.ty) (X5 : BufTy.Contents (Elt Ideal) arg5.view.ty) (init : FVec Ideal S128x1 .f32 × FVec Ideal S128x64 .f32) :
    st_k0_t2 (F := Ideal) 𝒱 c bd i arg3 harg3 arg4 harg4 arg5 harg5 arg6 harg6 arg2 v2 v6 v9 v19 v20 v21 v32 v39 w X4 X5 init (k0_t2_loop i).trips = init := by
  rw [(trips1 i).2.1]
  rfl

/-- The remainder loop has no trips. -/
theorem rest4 (𝒱 : Variants) (c : Dev nD) (bd : Option 𝒱.V) (i : grid0.Coords) (arg3 : Memref sig .tc .vmem S1x128x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x128 .f32) (harg6 : arg6.IsWhole) (arg2 : BitVec 32) (v6 : FVec Ideal S128x128 .bf16) (v9 : FVec Ideal S128x64 .bf16) (w : BitVec 32) (X4 : BufTy.Contents (Elt Ideal) arg4.view.ty) (X5 : BufTy.Contents (Elt Ideal) arg5.view.ty) (init : FVec Ideal S128x1 .f32 × FVec Ideal S128x64 .f32) :
    st_k0_t4 (F := Ideal) 𝒱 c bd i arg3 harg3 arg4 harg4 arg5 harg5 arg6 harg6 arg2 v6 v9 w X4 X5 init (k0_t4_loop i).trips = init := by
  rw [(trips1 i).2.2.2]
  rfl

end Cert.SbIdeal.Value
end
-- ==== Proof.Sb.lean ====
module

public import proofs.«01_k».proof.Defs
public import proofs.«01_k».proof.Proof.Below
public import proofs.«01_k».proof.Proof.SbRef
public import proofs.«01_k».proof.Proof.SbLoop
public import proofs.«01_k».proof.Proof.Gen.Sb.Frame
public import proofs.«01_k».proof.Proof.Gen.SbIdeal.Frame
public import proofs.«01_k».proof.Proof.Gen.SbIdeal.Value
public import proofs.«01_k».proof.Proof.Gen.SbRefIdeal.Run
public import proofs.«01_k».proof.Proof.Gen.Pre_finite
public import Idealize.ShloMosaic.Lib.Claim
public import Idealize.ShloMosaic.Lib.Pointwise
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SbIdeal.Value

open Cert.SbIdeal Cert.SbIdeal.Gen Cert.Sticks

variable (m : (ℓ : Loc nD τ sig) → Buf (Elt Ideal) ℓ)

/-- A block of the output at an entry: the row's mixture of the values, in the head the lane lies in. -/
def BLK (x0 : Vec Ideal S1x128x128 .f32) (x1 x2 : Vec Ideal S1x2048x128 .f32) (i : ℕ) (r e : Fin 128) : EReal :=
  mixed (Z x0 x1 ⟨e.val / 64 * 64, by omega⟩ r) (W x2 ⟨e.val / 64 * 64, by omega⟩ ⟨e.val % 64, by omega⟩) (i * 128 + r.val) 2048

theorem BLK_lane (x0 x1 x2 i r) (e : Fin 128) (d : Fin 64) (l : Fin 65) (hl : l.val = e.val / 64 * 64) (hd : d.val = e.val % 64) :
    mixed (Z x0 x1 l r) (W x2 l d) (i * 128 + r.val) 2048 = BLK x0 x1 x2 i r e := by
  have el : l = ⟨e.val / 64 * 64, by omega⟩ := Fin.ext hl
  have ed : d = ⟨e.val % 64, by omega⟩ := Fin.ext hd
  rw [el, ed]
  rfl

theorem ldq_at (x : Vec Ideal S1x128x128 .f32) (off : Fin 3 → ℕ) (h) (l : ℕ) (hl : l + 64 ≤ 128) (e : off = ![0, 0, l]) (c : Fin 128) (d : Fin 64) :
    View.ld x (Rect.unit off ![1, 128, 64] h) (ix3 0 c d) = x (ix3 0 c ⟨l + d.val, by omega⟩) := by
  subst e
  pointwise

theorem out0 (A : FVec Ideal S128x64 .f32) (x : S1x128x64.Idx) : k0_pay38 A x = A (ix2 (x 1) (x 2)) := by
  idx_vars x
  pointwise [k0_pay38]

theorem out1 (A : FVec Ideal S128x64 .f32) (x : S1x128x64.Idx) : k0_pay3 A x = A (ix2 (x 1) (x 2)) := by
  idx_vars x
  pointwise [k0_pay3]

theorem point (c : Dev nD) (t : Fin cfg0.N) (f0 : ∀ y, Finite (iblk m c 0 t y)) (f1 : ∀ y, Finite (iblk m c 1 t y)) (y : S1x128x128.Idx) :
    outsAt0 m c t y = BLK (iblk m c 0 t) (iblk m c 1 t) (iblk m c 2 t) (grid0.coords t 2).val (y 1) (y 2) := by
  unfold outsAt0
  frame_out
  generalize iblk m c 0 t = x0 at f0 ⊢
  generalize iblk m c 1 t = x1 at f1 ⊢
  generalize iblk m c 2 t = x2
  have ho := off1 (grid0.coords t)
  generalize grid0.coords t = i at ho ⊢
  have hi : (i 2).val < 16 := (i 2).isLt
  canon_tiles x h
  · have e1 : y 1 = x 1 := Fin.ext h1
    have e2 : (y 2).val = 64 + (x 2).val := h2
    refine (out1 _ x).trans ?_
    refine (congrArg (fun s : FVec Ideal S128x1 .f32 × FVec Ideal S128x64 .f32 => s.2 (ix2 (x 1) (x 2))) (rest4 ..)).trans ?_
    refine (head3 (x0 := x0) (h0 := f0) (h1 := f1) (hQ := ldq_at x0 _ _ 64 (by omega) rfl) (hK := ld_at x1 _ _ _ 64 (by omega) (by omega) ho.2)
      (hV := ld_at x2 _ _ _ 64 (by omega) (by omega) ho.2) ..).trans ?_
    rw [e1]
    exact BLK_lane x0 x1 x2 _ (x 1) (y 2) (x 2) ⟨64, by omega⟩ (by dsimp only; omega) (by omega)
  · have e1 : y 1 = x 1 := Fin.ext h1
    have e2 : (y 2).val = (x 2).val := h2
    refine (out0 _ x).trans ?_
    refine (congrArg (fun s : FVec Ideal S128x1 .f32 × FVec Ideal S128x64 .f32 => s.2 (ix2 (x 1) (x 2))) (rest2 ..)).trans ?_
    refine (head1 (x0 := x0) (h0 := f0) (h1 := f1) (hQ := ldq_at x0 _ _ 0 (by omega) rfl) (hK := ld_at x1 _ _ _ 0 (by omega) (by omega) ho.1)
      (hV := ld_at x2 _ _ _ 0 (by omega) (by omega) ho.1) ..).trans ?_
    rw [e1]
    exact BLK_lane x0 x1 x2 _ (x 1) (y 2) (x 2) ⟨0, by omega⟩ (by dsimp only; omega) (by omega)

/-- Where each window's block lies at every grid point. -/
theorem idx : ∀ t : Fin cfg0.N, win0_0.index t = ![t.val / 64, t.val % 16, 24 + t.val / 16 % 4] ∧ win0_1.index t = ![t.val / 64, 0, 28 + t.val / 16 % 4]
    ∧ win0_2.index t = ![t.val / 64, 0, 32 + t.val / 16 % 4] ∧ win0_3.index t = ![t.val / 64, t.val % 16, t.val / 16 % 4] ∧ (grid0.coords t 2).val = t.val % 16 ∧ t.val < 1024 :=
  (by decide +kernel : ∀ t : Fin grid0.N, _)

theorem q_at (c : Dev nD) (t : Fin cfg0.N) (b : Fin 16) (i : Fin 16) (g : Fin 4) (hb : b.val = t.val / 64) (hg : g.val = t.val / 16 % 4) (hi : i.val = t.val % 16)
    (r x : Fin 128) : iblk m c 0 t (ix3 0 r x) = V m c main_v12 (ix3 b ⟨i.val * 128 + r.val, by omega⟩ ⟨3072 + (g.val * 128 + x.val), by omega⟩) := by
  pointwise
  blk_point [iblk, idx t]

theorem k_at (c : Dev nD) (t : Fin cfg0.N) (b : Fin 16) (g : Fin 4) (hb : b.val = t.val / 64) (hg : g.val = t.val / 16 % 4)
    (s : Fin 2048) (x : Fin 128) : iblk m c 1 t (ix3 0 s x) = V m c main_v12 (ix3 b s ⟨3584 + (g.val * 128 + x.val), by omega⟩) := by
  blk_point [iblk, idx t]

theorem v_at (c : Dev nD) (t : Fin cfg0.N) (b : Fin 16) (g : Fin 4) (hb : b.val = t.val / 64) (hg : g.val = t.val / 16 % 4)
    (s : Fin 2048) (x : Fin 128) : iblk m c 2 t (ix3 0 s x) = V m c main_v12 (ix3 b s ⟨4096 + (g.val * 128 + x.val), by omega⟩) := by
  blk_point [iblk, idx t]

theorem o_at (A : FVec Ideal S16x2048x512 .f32) (t : Fin cfg0.N) (b : Fin 16) (i : Fin 16) (g : Fin 4) (hb : b.val = t.val / 64) (hg : g.val = t.val / 16 % 4) (hi : i.val = t.val % 16)
    (r x : Fin 128) : A (((cfg0.win 3).blk t).view.emb (ix3 0 r x)) = A (ix3 b ⟨i.val * 128 + r.val, by omega⟩ ⟨g.val * 128 + x.val, by omega⟩) := by
  blk_point [idx t]

/-- Of twelve arrays laid side by side the second, third and fourth. -/
theorem pieces (a0 : FVec Ideal S16x2048x3072 .f32) (a1 a2 a3 a4 a5 a6 a7 a8 : FVec Ideal S16x2048x512 .f32)
    (a9 : FVec Ideal S16x2048x768 .f32) (a10 : FVec Ideal S16x2048x24 .f32) (a11 : FVec Ideal S16x2048x104 .f32) (X : FVec Ideal S16x2048x7960 .f32)
    (h1 : a1 = extractStridedSlice S16x2048x512 ![0, 0, 0] X slices_S16x2048x7960_S16x2048x512_0_0_0)
    (h2 : a2 = extractStridedSlice S16x2048x512 ![0, 0, 512] X slices_S16x2048x7960_S16x2048x512_0_0_512)
    (h3 : a3 = extractStridedSlice S16x2048x512 ![0, 0, 1024] X slices_S16x2048x7960_S16x2048x512_0_0_1024)
    (b : Fin 16) (s : Fin 2048) (q : Fin 1536) :
    concatenate S16x2048x8064 2 [⟨S16x2048x3072, a0⟩, ⟨S16x2048x512, a1⟩, ⟨S16x2048x512, a2⟩, ⟨S16x2048x512, a3⟩, ⟨S16x2048x512, a4⟩, ⟨S16x2048x512, a5⟩, ⟨S16x2048x512, a6⟩, ⟨S16x2048x512, a7⟩, ⟨S16x2048x512, a8⟩, ⟨S16x2048x768, a9⟩, ⟨S16x2048x24, a10⟩, ⟨S16x2048x104, a11⟩]
      concatenates_S16x2048x3072_S16x2048x512_S16x2048x512_S16x2048x512_S16x2048x512_S16x2048x512_S16x2048x512_S16x2048x512_S16x2048x512_S16x2048x768_S16x2048x24_S16x2048x104_S16x2048x8064_d2
      (ix3 b s ⟨3072 + q.val, by omega⟩) = X (ix3 b s ⟨q.val, by omega⟩) := by
  subst h1 h2 h3
  pointwise
  by_cases c1 : q.val < 512
  · rw [dif_pos (by omega)]
  rw [dif_neg (by omega)]
  by_cases c2 : q.val < 1024
  · rw [dif_pos (by omega)]
    exact congrArg X (congrArg (ix3 b s) (Fin.ext (by dsimp only; omega)))
  rw [dif_neg (by omega), dif_pos (by omega)]
  exact congrArg X (congrArg (ix3 b s) (Fin.ext (by dsimp only; omega)))

/-- The region finds the queries, keys and values of `proj` from column 3072 on. -/
theorem entry_at (c : Dev nD) (b : Fin 16) (s : Fin 2048) (j : Fin 8064) (q : Fin 7960) (hj : j.val = 3072 + q.val) (hq : q.val < 1536) :
    V m c main_v12 (ix3 b s j) = m ((c : Thread nD τ).loc main_arg0) (ix3 b s q) := by
  obtain rfl : j = ⟨3072 + q.val, by clear hj; omega⟩ := Fin.ext hj
  simp only [V, List.flatten_cons, List.flatten_nil, List.append_nil, hostOps0]
  after_results
  refine pieces _ _ _ _ _ _ _ _ _ _ _ _ (m ((c : Thread nD τ).loc main_arg0)) ?_ ?_ ?_ b s ⟨q.val, hq⟩ <;> (dsimp only [Matrix.cons_val]; after_results_simp)

/-- The whole output: at every entry the mixture of the values of the entry's head. -/
def REF (X : FVec Ideal S16x2048x7960 .f32) : FVec Ideal S16x2048x512 .f32 := fun j =>
  mixed (extend (Cert.SbRefIdeal.Value.LOGIT X (j 0) ⟨(j 2).val / 64, by have : (j 2).val < 512 := (j 2).isLt; omega⟩ (j 1)))
    (extend fun s => X (ix3 (j 0) s ⟨1024 + (j 2).val, by have : (j 2).val < 512 := (j 2).isLt; omega⟩)) (j 1).val 2048

theorem point_at (c : Dev nD) (X : FVec Ideal S16x2048x7960 .f32) (hX : m ((c : Thread nD τ).loc main_arg0) = X) (hf : ∀ i, Finite (X i)) (t : Fin cfg0.N) (r e : Fin 128) :
    outsAt0 m c t (ix3 0 r e) = REF X (((cfg0.win 3).blk t).view.emb (ix3 0 r e)) := by
  have ht := (idx t).2.2.2.2
  obtain ⟨b, hb⟩ : ∃ b : Fin 16, b.val = t.val / 64 := ⟨⟨t.val / 64, by omega⟩, rfl⟩
  obtain ⟨g, hg⟩ : ∃ g : Fin 4, g.val = t.val / 16 % 4 := ⟨⟨t.val / 16 % 4, by omega⟩, rfl⟩
  obtain ⟨i, hi⟩ : ∃ i : Fin 16, i.val = t.val % 16 := ⟨⟨t.val % 16, by omega⟩, rfl⟩
  have hq : ∀ r x : Fin 128, iblk m c 0 t (ix3 0 r x) = X (ix3 b ⟨i.val * 128 + r.val, by omega⟩ ⟨g.val * 128 + x.val, by omega⟩) := fun r x => by
    rw [q_at m c t b i g hb hg hi r x, entry_at m c b _ _ ⟨g.val * 128 + x.val, by omega⟩ (by dsimp only) (by dsimp only; omega), hX]
  have hk : ∀ (s : Fin 2048) (x : Fin 128), iblk m c 1 t (ix3 0 s x) = X (ix3 b s ⟨512 + (g.val * 128 + x.val), by omega⟩) := fun s x => by
    rw [k_at m c t b g hb hg s x, entry_at m c b _ _ ⟨512 + (g.val * 128 + x.val), by omega⟩ (by dsimp only; omega) (by dsimp only; omega), hX]
  have hv : ∀ (s : Fin 2048) (x : Fin 128), iblk m c 2 t (ix3 0 s x) = X (ix3 b s ⟨1024 + (g.val * 128 + x.val), by omega⟩) := fun s x => by
    rw [v_at m c t b g hb hg s x, entry_at m c b _ _ ⟨1024 + (g.val * 128 + x.val), by omega⟩ (by dsimp only; omega) (by dsimp only; omega), hX]
  have f0 : ∀ y : S1x128x128.Idx, Finite (iblk m c 0 t y) := fun y => by
    idx_vars y
    obtain rfl : y0 = 0 := Subsingleton.elim _ _
    rw [hq]; exact hf _
  have f1 : ∀ y : S1x2048x128.Idx, Finite (iblk m c 1 t y) := fun y => by
    idx_vars y
    obtain rfl : y0 = 0 := Subsingleton.elim _ _
    rw [hk]; exact hf _
  rw [point m c t f0 f1, o_at (REF X) t b i g hb hg hi r e]
  generalize iblk m c 0 t = x0 at hq ⊢
  generalize iblk m c 1 t = x1 at hk ⊢
  generalize iblk m c 2 t = x2 at hv ⊢
  rw [ht.1, ← hi]
  have hz : Z x0 x1 ⟨e.val / 64 * 64, by omega⟩ r = extend (Cert.SbRefIdeal.Value.LOGIT X b ⟨(g.val * 128 + e.val) / 64, by omega⟩ ⟨i.val * 128 + r.val, by omega⟩) := by
    unfold Z
    refine congrArg extend (funext fun s => ?_)
    unfold Cert.SbRefIdeal.Value.LOGIT
    refine congrArg (fun z : EReal => z * Ideal.ofBits .f32 0x3E000000#32) (Finset.sum_congr rfl fun x _ => ?_)
    rw [hq, hk]
    exact congrArg₂ (fun (p q : Fin 7960) => X (ix3 b ⟨i.val * 128 + r.val, by omega⟩ p) * X (ix3 b s q)) (Fin.ext (by dsimp only; omega)) (Fin.ext (by dsimp only; omega))
  have hw : W x2 ⟨e.val / 64 * 64, by omega⟩ ⟨e.val % 64, by omega⟩ = extend fun s => X (ix3 b s ⟨1024 + (g.val * 128 + e.val), by omega⟩) := by
    unfold W
    refine congrArg extend (funext fun s => ?_)
    rw [hv]
    exact congrArg (fun p : Fin 7960 => X (ix3 b s p)) (Fin.ext (by dsimp only; omega))
  show mixed (Z x0 x1 ⟨e.val / 64 * 64, _⟩ r) (W x2 ⟨e.val / 64 * 64, _⟩ ⟨e.val % 64, _⟩) (i.val * 128 + r.val) 2048 = _
  rw [hz, hw]
  rfl

theorem point_all (c : Dev nD) (X : FVec Ideal S16x2048x7960 .f32) (hX : m ((c : Thread nD τ).loc main_arg0) = X) (hf : ∀ i, Finite (X i)) (t : Fin cfg0.N) (y : S1x128x128.Idx) :
    outsAt0 m c t y = REF X (((cfg0.win 3).blk t).view.emb y) := by
  have h := point_at m c X hX hf t
  generalize outsAt0 m c t = A at h ⊢
  generalize REF X = B at h ⊢
  idx_vars y
  obtain rfl : y0 = 0 := Subsingleton.elim _ _
  exact h y1 y2

theorem final (c : Dev nD) (X : FVec Ideal S16x2048x7960 .f32) (hX : m ((c : Thread nD τ).loc main_arg0) = X) (hf : ∀ i, Finite (X i)) :
    (dats m 0 c).arrAt 3 (cfgs 0).N = REF X := by
  refine (dats m 0 c).arrAt_eq_of_covers 3 _ (by decide +kernel) fun t _ y => ?_
  blk_simp
  rw [after0_3]
  exact point_all m c X hX hf t y

end Cert.SbIdeal.Value

namespace Cert.Proof

open Cert.Sticks

instance pre_finite_facts : Cert.Pre_finite.Facts := Cert.Pre_finite.Gen.facts

/-- An entry whose absolute value is below infinity is a real number. -/
theorem finite_of_pre (X : FVec Ideal Cert.Pre_finite.S16x2048x7960 .f32) (h : Cert.Pre_finite.fn (F := Ideal) X = fun _ => 1#1) (i) : Finite (X i) :=
  finite_of_below _ (congrFun h i)

theorem frame_sb : Cert.quiescent_Sb := fun m ρ _ => Cert.Sb.Gen.frame m ρ

theorem frame_sbIdeal : Cert.quiescent_SbIdeal := fun m ρ _ => Cert.SbIdeal.Gen.frame m ρ

theorem frame_sbIdeal_pre : Cert.quiescent_SbIdeal_pre_finite := fun m ρ _ => Cert.SbIdeal.Gen.frame m ρ

theorem frame_sbRefIdeal : Cert.quiescent_SbRefIdeal := fun m ρ _ =>
  (θ_run Cert.SbRefIdeal.defs _ _).mono (fun r h => ⟨fun c => (h c).2, sem_eq_zero_of_no_sems (by decide) r.2⟩) (Cert.SbRefIdeal.Value.run (F := Ideal) m ρ)

theorem frame_sbRefIdeal_pre : Cert.quiescent_SbRefIdeal_pre_finite := fun m ρ _ => frame_sbRefIdeal m ρ trivial

theorem algebraic_sb : Cert.algebraic_SbIdeal_SbRefIdeal_pre_finite := by
  pair_intro
  · run_from Cert.SbIdeal.Value.run_blocks m g
  · run_from Cert.SbRefIdeal.Value.run m' g'
    have hf := finite_of_pre _ (hpre c)
    refine Eq.trans ?_ (Cert.SbIdeal.Value.final m c _ rfl hf).symm
    funext j
    idx_vars j
    exact Cert.SbRefIdeal.Value.read m' c _ (hagree c) hf j0 j1 j2

end Cert.Proof

end
-- ==== Proof.lean ====
module

public import proofs.«01_k».proof.Proof.Gather
public import proofs.«01_k».proof.Proof.FinalNorm
public import proofs.«01_k».proof.Proof.Merge
public import proofs.«01_k».proof.Proof.Inproj
public import proofs.«01_k».proof.Proof.Compress
public import proofs.«01_k».proof.Proof.Sb

@[expose] public section

/-! # The certificate's claim -/

noncomputable section

namespace Cert.Proof

theorem claim : Cert.Claim :=
  ⟨Cert.Kernel.Gen.facts, Cert.KernelIdeal.Gen.facts, Cert.ReferenceIdeal.Gen.facts, Cert.Reference.Gen.facts,
    Cert.Inproj.Gen.facts, Cert.InprojIdeal.Gen.facts, Cert.InprojRefIdeal.Gen.facts, Cert.Merge.Gen.facts,
    Cert.MergeIdeal.Gen.facts, Cert.MergeRefIdeal.Gen.facts, Cert.FinalNorm.Gen.facts, Cert.FinalNormIdeal.Gen.facts,
    Cert.FinalNormRefIdeal.Gen.facts, Cert.Sb.Gen.facts, Cert.SbIdeal.Gen.facts, Cert.SbRefIdeal.Gen.facts,
    Cert.Compress.Gen.facts, Cert.CompressIdeal.Gen.facts, Cert.CompressRefIdeal.Gen.facts,
    Cert.Pre_eidx_in_table.Gen.facts, Cert.Pre_finite.Gen.facts, Cert.Pre_finite_maps.Gen.facts,
    frame_kernel, frame_kernelIdeal, frame_referenceIdeal, frame_reference, frame_inproj,
    frame_inprojIdeal, frame_inprojRefIdeal, frame_merge, frame_mergeIdeal, frame_mergeRefIdeal,
    frame_finalNorm, frame_finalNormIdeal, frame_finalNormRefIdeal,
    frame_sb, frame_sbIdeal, frame_sbIdeal_pre, frame_sbRefIdeal, frame_sbRefIdeal_pre,
    frame_compress, frame_compressIdeal, frame_compressIdeal_pre, frame_compressRefIdeal, frame_compressRefIdeal_pre,
    trivial, algebraic, bitexact, trivial, algebraic_inproj, trivial, algebraic_merge, trivial, algebraic_finalNorm,
    trivial, algebraic_sb, trivial, algebraic_compress⟩

end Cert.Proof

end
